-- ==== Defs.lean ====
def Pre_Kernel [hPre_idxes_name_bins : Cert.Pre_idxes_name_bins.Facts] (m : (ℓ : Loc Cert.Kernel.nD Cert.Kernel.τ Cert.Kernel.sig) → Buf (Elt Bits) ℓ) : Prop :=
  ∀ c : Dev Cert.Kernel.nD,
    (Cert.Pre_idxes_name_bins.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_idxes_name_bins : Cert.Pre_idxes_name_bins.Facts] (m : (ℓ : Loc Cert.KernelIdeal.nD Cert.KernelIdeal.τ Cert.KernelIdeal.sig) → Buf (Elt Ideal) ℓ) : Prop :=
  ∀ c : Dev Cert.KernelIdeal.nD,
    (Cert.Pre_idxes_name_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_bands_are_runs [hPre_bands_are_runs : Cert.Pre_bands_are_runs.Facts] (m : (ℓ : Loc Cert.KernelIdeal.nD Cert.KernelIdeal.τ Cert.KernelIdeal.sig) → Buf (Elt Ideal) ℓ) : Prop :=
  ∀ c : Dev Cert.KernelIdeal.nD,
    (Cert.Pre_bands_are_runs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bands_are_runs [hPre_bands_are_runs : Cert.Pre_bands_are_runs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bands_are_runs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_idxes_name_bins : Cert.Pre_idxes_name_bins.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_idxes_name_bins : Cert.Pre_idxes_name_bins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bands_are_runs [hKernelIdeal : Cert.KernelIdeal.Facts] [hPre_bands_are_runs : Cert.Pre_bands_are_runs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bands_are_runs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bands_are_runs [hReferenceIdeal : Cert.ReferenceIdeal.Facts] [hPre_bands_are_runs : Cert.Pre_bands_are_runs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bands_are_runs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_bands_are_runs [hKernelIdeal : Cert.KernelIdeal.Facts] [hReferenceIdeal : Cert.ReferenceIdeal.Facts] [hPre_bands_are_runs : Cert.Pre_bands_are_runs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bands_are_runs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_idxes_name_bins : Cert.Pre_idxes_name_bins.Facts) (hPre_bands_are_runs : Cert.Pre_bands_are_runs.Facts),
    quiescent_Kernel (hKernel := hKernel) (hPre_idxes_name_bins := hPre_idxes_name_bins)
    ∧ quiescent_KernelIdeal (hKernelIdeal := hKernelIdeal) (hPre_idxes_name_bins := hPre_idxes_name_bins)
    ∧ quiescent_KernelIdeal_pre_bands_are_runs (hKernelIdeal := hKernelIdeal) (hPre_bands_are_runs := hPre_bands_are_runs)
    ∧ quiescent_ReferenceIdeal (hReferenceIdeal := hReferenceIdeal)
    ∧ quiescent_ReferenceIdeal_pre_bands_are_runs (hReferenceIdeal := hReferenceIdeal) (hPre_bands_are_runs := hPre_bands_are_runs)
    ∧ preserves_Kernel_KernelIdeal
    ∧ algebraic_KernelIdeal_ReferenceIdeal_pre_bands_are_runs (hKernelIdeal := hKernelIdeal) (hReferenceIdeal := hReferenceIdeal) (hPre_bands_are_runs := hPre_bands_are_runs)
-- ==== Pre_bands_are_runs.lean ====
abbrev S4x2x512x1025 : Shape := ⟨4, ![4, 2, 512, 1025]⟩
abbrev S64x2x125x128 : Shape := ⟨4, ![64, 2, 125, 128]⟩
abbrev S64x128 : Shape := ⟨2, ![64, 128]⟩
abbrev S64x125 : Shape := ⟨2, ![64, 125]⟩
abbrev S64x1 : Shape := ⟨2, ![64, 1]⟩
abbrev S125 : Shape := ⟨1, ![125]⟩
abbrev S1x125 : Shape := ⟨2, ![1, 125]⟩
abbrev S_ : Shape := ⟨0, ![]⟩

class Facts : Prop where
  slices_S64x125_S64x1_0_0 : S64x125.Slices ![0, 0] S64x1
  bcast_S125_S1x125_1 : S125.BroadcastsInDim S1x125 (![1] : Fin 1 → Fin S1x125.rank)
  bcast_S64x1_S64x125_0_1 : S64x1.BroadcastsInDim S64x125 (![0, 1] : Fin 2 → Fin S64x125.rank)
  bcast_S1x125_S64x125_0_1 : S1x125.BroadcastsInDim S64x125 (![0, 1] : Fin 2 → Fin S64x125.rank)
  bcast_S_S64x125 : S_.BroadcastsInDim S64x125 (![] : Fin 0 → Fin S64x125.rank)

variable [Facts]

def fn {F : FTy → Type} [FloatOps F] (main_arg0 : FVec F S4x2x512x1025 .f32) (main_arg1 : FVec F S64x2x125x128 .f32) (main_arg2 : FVec F S64x128 .f32) (main_arg3 : IVec S64x125 32) (main_arg4 : FVec F S64x125 .f32) : IVec S64x125 1 :=
  let main_v0 : IVec S64x1 32 := (extractStridedSlice S64x1 ![0, 0] · slices_S64x125_S64x1_0_0) main_arg3
  let main_v1 : IVec S125 32 := iotaInDim S125 32 0
  let main_v2 : IVec S1x125 32 := broadcastInDim S1x125 ![1] bcast_S125_S1x125_1 main_v1
  let main_v3 : IVec S64x125 32 := broadcastInDim S64x125 ![0, 1] bcast_S64x1_S64x125_0_1 main_v0
  let main_v4 : IVec S64x125 32 := broadcastInDim S64x125 ![0, 1] bcast_S1x125_S64x125_0_1 main_v2
  let main_v5 : IVec S64x125 32 := addi main_v3 main_v4
  let main_c : IVec S_ 32 := constantI S_ 32 0#32
  let main_v6 : IVec S64x125 32 := broadcastInDim S64x125 ![] bcast_S_S64x125 main_c
  let main_v7 : IVec S64x125 1 := cmpi .sge main_arg3 main_v6
  let main_c_0 : IVec S_ 32 := constantI S_ 32 1024#32
  let main_v8 : IVec S64x125 32 := broadcastInDim S64x125 ![] bcast_S_S64x125 main_c_0
  let main_v9 : IVec S64x125 1 := cmpi .sle main_arg3 main_v8
  let main_v10 : IVec S64x125 1 := andi main_v7 main_v9
  let main_cst : FVec F S_ .f32 := constant S_ .f32 0x00000000#32
  let main_v11 : FVec F S64x125 .f32 := broadcastInDim S64x125 ![] bcast_S_S64x125 main_cst
  let main_v12 : IVec S64x125 1 := cmpf .oeq main_arg4 main_v11
  let main_v13 : IVec S64x125 1 := cmpi .eq main_arg3 main_v5
  let main_v14 : IVec S64x125 1 := ori main_v12 main_v13
  let main_v15 : IVec S64x125 1 := andi main_v10 main_v14
  main_v15
-- ==== Pre_idxes_name_bins.lean ====
abbrev S4x2x512x1025 : Shape := ⟨4, ![4, 2, 512, 1025]⟩
abbrev S64x2x125x128 : Shape := ⟨4, ![64, 2, 125, 128]⟩
abbrev S64x128 : Shape := ⟨2, ![64, 128]⟩
abbrev S64x125 : Shape := ⟨2, ![64, 125]⟩
abbrev S_ : Shape := ⟨0, ![]⟩

class Facts : Prop where
  bcast_S_S64x125 : S_.BroadcastsInDim S64x125 (![] : Fin 0 → Fin S64x125.rank)

variable [Facts]

def fn {F : FTy → Type} [FloatOps F] (main_arg0 : FVec F S4x2x512x1025 .f32) (main_arg1 : FVec F S64x2x125x128 .f32) (main_arg2 : FVec F S64x128 .f32) (main_arg3 : IVec S64x125 32) (main_arg4 : FVec F S64x125 .f32) : IVec S64x125 1 :=
  let main_c : IVec S_ 32 := constantI S_ 32 0#32
  let main_v0 : IVec S64x125 32 := broadcastInDim S64x125 ![] bcast_S_S64x125 main_c
  let main_v1 : IVec S64x125 1 := cmpi .sge main_arg3 main_v0
  let main_c_0 : IVec S_ 32 := constantI S_ 32 1024#32
  let main_v2 : IVec S64x125 32 := broadcastInDim S64x125 ![] bcast_S_S64x125 main_c_0
  let main_v3 : IVec S64x125 1 := cmpi .sle main_arg3 main_v2
  let main_v4 : IVec S64x125 1 := andi main_v1 main_v3
  main_v4
-- ==== Kernel.lean ====
abbrev S4x2x512x1025 : Shape := ⟨4, ![4, 2, 512, 1025]⟩
abbrev S64x2x125x128 : Shape := ⟨4, ![64, 2, 125, 128]⟩
abbrev S64x128 : Shape := ⟨2, ![64, 128]⟩
abbrev S64x125 : Shape := ⟨2, ![64, 125]⟩
abbrev S64x1 : Shape := ⟨2, ![64, 1]⟩
abbrev S64 : Shape := ⟨1, ![64]⟩
abbrev S64x1x125 : Shape := ⟨3, ![64, 1, 125]⟩
abbrev S64x1x128 : Shape := ⟨3, ![64, 1, 128]⟩
abbrev S64x2x256x128 : Shape := ⟨4, ![64, 2, 256, 128]⟩
abbrev S131x128 : Shape := ⟨2, ![131, 128]⟩
abbrev S1 : Shape := ⟨1, ![1]⟩
abbrev S1x1x125 : Shape := ⟨3, ![1, 1, 125]⟩
abbrev S125 : Shape := ⟨1, ![125]⟩
abbrev S1x1x125x128 : Shape := ⟨4, ![1, 1, 125, 128]⟩
abbrev S125x128 : Shape := ⟨2, ![125, 128]⟩
abbrev S125x1 : Shape := ⟨2, ![125, 1]⟩
abbrev S256x128 : Shape := ⟨2, ![256, 128]⟩
abbrev S1x1x256x128 : Shape := ⟨4, ![1, 1, 256, 128]⟩
abbrev S64x4x512x128 : Shape := ⟨4, ![64, 4, 512, 128]⟩
abbrev S1x4x512x128 : Shape := ⟨4, ![1, 4, 512, 128]⟩
abbrev S4x2x512x1280 : Shape := ⟨4, ![4, 2, 512, 1280]⟩
abbrev S1x1x512x1025 : Shape := ⟨4, ![1, 1, 512, 1025]⟩
abbrev S512x1025 : Shape := ⟨2, ![512, 1025]⟩
abbrev S512x255 : Shape := ⟨2, ![512, 255]⟩
abbrev S1x1x512x255 : Shape := ⟨4, ![1, 1, 512, 255]⟩
abbrev S4x1x512x256 : Shape := ⟨4, ![4, 1, 512, 256]⟩
abbrev S4x512x256 : Shape := ⟨3, ![4, 512, 256]⟩
abbrev S2048x256 : Shape := ⟨2, ![2048, 256]⟩
abbrev S2048x128 : Shape := ⟨2, ![2048, 128]⟩
abbrev S1x1x128 : Shape := ⟨3, ![1, 1, 128]⟩
abbrev S128 : Shape := ⟨1, ![128]⟩
abbrev S1x128 : Shape := ⟨2, ![1, 128]⟩
abbrev S4x512x128 : Shape := ⟨3, ![4, 512, 128]⟩
abbrev S4x128x512x64 : Shape := ⟨4, ![4, 128, 512, 64]⟩

abbrev nBuf : Space → Nat
  | .hbm => 11
  | .vmem => 9
  | .smem => 1
  | _ => 0

abbrev bufTy : (tb : Table) → Fin (tcTables nBuf tb) → BufTy
  | .hbm, ⟨0, _⟩ => ⟨S4x2x512x1025, .f32⟩
  | .hbm, ⟨1, _⟩ => ⟨S64x2x125x128, .f32⟩
  | .hbm, ⟨2, _⟩ => ⟨S64x128, .f32⟩
  | .hbm, ⟨3, _⟩ => ⟨S64x125, .i32⟩
  | .hbm, ⟨4, _⟩ => ⟨S64x125, .f32⟩
  | .hbm, ⟨5, _⟩ => ⟨S64x1, .i32⟩
  | .hbm, ⟨6, _⟩ => ⟨S64x1x125, .f32⟩
  | .hbm, ⟨7, _⟩ => ⟨S64x1x128, .f32⟩
  | .hbm, ⟨8, _⟩ => ⟨S64x2x256x128, .bf16⟩
  | .hbm, ⟨9, _⟩ => ⟨S64x4x512x128, .f32⟩
  | .hbm, ⟨10, _⟩ => ⟨S4x128x512x64, .f32⟩
  | .local _ .vmem, ⟨0, _⟩ => ⟨S64x2x125x128, .f32⟩
  | .local _ .vmem, ⟨1, _⟩ => ⟨S64x1x125, .f32⟩
  | .local _ .vmem, ⟨2, _⟩ => ⟨S64x2x256x128, .bf16⟩
  | .local _ .vmem, ⟨3, _⟩ => ⟨S4x2x512x1025, .f32⟩
  | .local _ .vmem, ⟨4, _⟩ => ⟨S64x2x256x128, .bf16⟩
  | .local _ .vmem, ⟨5, _⟩ => ⟨S64x1x128, .f32⟩
  | .local _ .vmem, ⟨6, _⟩ => ⟨S1x4x512x128, .f32⟩
  | .local _ .vmem, ⟨7, _⟩ => ⟨S1x4x512x128, .f32⟩
  | .local _ .vmem, ⟨8, _⟩ => ⟨S4x2x512x1280, .bf16⟩
  | .local _ .smem, ⟨0, _⟩ => ⟨S64, .i32⟩
  | _, _ => ⟨S4x2x512x1025, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc1_scratch0 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem3_1 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let v2 : Index := Scalar.indexCast arg5
  ![v2.toNat]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v14 : Index := Scalar.indexCast arg5
  let c0 : Index := 0#32
  let c0_6 : Index := 0#32
  ![v14.toNat, 0, 0]
def k0_off3 (k0_t1 : Fin k0_t1_loop.trips) : Fin 4 → Nat :=
  let c0_i32 : BitVec 32 := 0#32
  let c1_i32 : BitVec 32 := 1#32
  let arg5 : BitVec 32 := Scf.iv c0_i32 c1_i32 k0_t1
  let v17 : Index := Scalar.indexCast arg5
  let c0_7 : Index := 0#32
  let c0_8 : Index := 0#32
  let c0_9 : Index := 0#32
  ![v17.toNat, 0, 0, 0]
def k0_off4 (k0_t1 : Fin k0_t1_loop.trips) : Fin 4 → Nat :=
  let c0_i32 : BitVec 32 := 0#32
  let c1_i32 : BitVec 32 := 1#32
  let arg5 : BitVec 32 := Scf.iv c0_i32 c1_i32 k0_t1
  let v26 : Index := Scalar.indexCast arg5
  let c0_10 : Index := 0#32
  let c0_11 : Index := 0#32
  let c0_12 : Index := 0#32
  ![v26.toNat, 0, 0, 0]
def k0_off5 (k0_t1 : Fin k0_t1_loop.trips) : Fin 4 → Nat :=
  let c0_i32 : BitVec 32 := 0#32
  let c1_i32 : BitVec 32 := 1#32
  let arg5 : BitVec 32 := Scf.iv c0_i32 c1_i32 k0_t1
  let v30 : Index := Scalar.indexCast arg5
  let c1 : Index := 1#32
  let c0_13 : Index := 0#32
  let c0_14 : Index := 0#32
  ![v30.toNat, 1, 0, 0]
def k0_off6 (k0_t1 : Fin k0_t1_loop.trips) : Fin 4 → Nat :=
  let c0_i32 : BitVec 32 := 0#32
  let c1_i32 : BitVec 32 := 1#32
  let arg5 : BitVec 32 := Scf.iv c0_i32 c1_i32 k0_t1
  let v39 : Index := Scalar.indexCast arg5
  let c1_15 : Index := 1#32
  let c0_16 : Index := 0#32
  let c0_17 : Index := 0#32
  ![v39.toNat, 1, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S64x2x125x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1x125 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

abbrev pre1 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v3 : Index := Scalar.indexCast arg0
  ![v3.toNat]
def k1_off2 (v4 : BitVec 32) : Fin 4 → Nat :=
  let c0 : Index := 0#32
  let c0_7 : Index := 0#32
  let c0_8 : Index := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c128_i32 : BitVec 32 := 128#32
  let c0_i32_3 : BitVec 32 := 0#32
  let v11 : BitVec 1 := Scalar.cmpi .sgt c128_i32 c0_i32_3
  let v12 : BitVec 32 := Scalar.extui v11
  let c0_i32_4 : BitVec 32 := 0#32
  let v13 : BitVec 1 := Scalar.cmpi .slt c128_i32 c0_i32_4
  let v14 : BitVec 32 := Scalar.extui v13
  let v15 : BitVec 32 := Scalar.subi v12 v14
  let v16 : BitVec 1 := Scalar.cmpi .ne v10 v15
  let v17 : BitVec 32 := Scalar.remsi v4 c128_i32
  let c0_i32_5 : BitVec 32 := 0#32
  let v18 : BitVec 1 := Scalar.cmpi .ne v17 c0_i32_5
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let c128_i32_6 : BitVec 32 := 128#32
  let v22 : BitVec 32 := Scalar.muli v21 c128_i32_6
  let v23 : Index := Scalar.indexCast v22
  ![0, 0, 0, v23.toNat]

def k1_off3 (v4 : BitVec 32) : Fin 4 → Nat :=
  let c0_9 : Index := 0#32
  let c1 : Index := 1#32
  let c0_10 : Index := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c128_i32 : BitVec 32 := 128#32
  let c0_i32_3 : BitVec 32 := 0#32
  let v11 : BitVec 1 := Scalar.cmpi .sgt c128_i32 c0_i32_3
  let v12 : BitVec 32 := Scalar.extui v11
  let c0_i32_4 : BitVec 32 := 0#32
  let v13 : BitVec 1 := Scalar.cmpi .slt c128_i32 c0_i32_4
  let v14 : BitVec 32 := Scalar.extui v13
  let v15 : BitVec 32 := Scalar.subi v12 v14
  let v16 : BitVec 1 := Scalar.cmpi .ne v10 v15
  let v17 : BitVec 32 := Scalar.remsi v4 c128_i32
  let c0_i32_5 : BitVec 32 := 0#32
  let v18 : BitVec 1 := Scalar.cmpi .ne v17 c0_i32_5
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let c128_i32_6 : BitVec 32 := 128#32
  let v22 : BitVec 32 := Scalar.muli v21 c128_i32_6
  let v27 : Index := Scalar.indexCast v22
  ![0, 1, 0, v27.toNat]

def k1_chk1 (v4 : BitVec 32) : Prop :=
  (∀ a, (k1_off2 v4) a + S4x1x512x256.size a ≤ S4x2x512x1280.size a) ∧
  (∀ a, (k1_off3 v4) a + S4x1x512x256.size a ≤ S4x2x512x1280.size a)
theorem k1_off2_inb : ∀ (v4 : BitVec 32) (k1_hw1 : k1_chk1 v4), ∀ a, (k1_off2 v4) a + S4x1x512x256.size a ≤ S4x2x512x1280.size a := fun v4 k1_hw1 => k1_hw1.1
theorem k1_off3_inb : ∀ (v4 : BitVec 32) (k1_hw1 : k1_chk1 v4), ∀ a, (k1_off3 v4) a + S4x1x512x256.size a ≤ S4x2x512x1280.size a := fun v4 k1_hw1 => k1_hw1.2

def k1_off4 (i : grid1.Coords) : Fin 4 → Nat :=
  let arg0 : BitVec 32 := BitVec.ofNat 32 (i 0).val
  let v31 : Index := Scalar.indexCast arg0
  let c0_11 : Index := 0#32
  let c0_12 : Index := 0#32
  let c0_13 : Index := 0#32
  ![v31.toNat, 0, 0, 0]
def k1_off5 (i : grid1.Coords) : Fin 4 → Nat :=
  let arg0 : BitVec 32 := BitVec.ofNat 32 (i 0).val
  let v35 : Index := Scalar.indexCast arg0
  let c1_14 : Index := 1#32
  let c0_15 : Index := 0#32
  let c0_16 : Index := 0#32
  ![v35.toNat, 1, 0, 0]
def k1_off6 (i : grid1.Coords) : Fin 3 → Nat :=
  let arg0 : BitVec 32 := BitVec.ofNat 32 (i 0).val
  let v40 : Index := Scalar.indexCast arg0
  let c0_18 : Index := 0#32
  let c0_19 : Index := 0#32
  ![v40.toNat, 0, 0]
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .vmem S4x2x512x1025 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x2x256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x4x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4x2x512x1025 : Shape := ⟨4, ![4, 2, 512, 1025]⟩
abbrev S64x2x125x128 : Shape := ⟨4, ![64, 2, 125, 128]⟩
abbrev S64x128 : Shape := ⟨2, ![64, 128]⟩
abbrev S64x125 : Shape := ⟨2, ![64, 125]⟩
abbrev S_ : Shape := ⟨0, ![]⟩
abbrev S64x125x1 : Shape := ⟨3, ![64, 125, 1]⟩
abbrev S4x2x512x64x125 : Shape := ⟨5, ![4, 2, 512, 64, 125]⟩
abbrev S1x1x1x64x125 : Shape := ⟨5, ![1, 1, 1, 64, 125]⟩
abbrev S64x128x4x512 : Shape := ⟨4, ![64, 128, 4, 512]⟩
abbrev S4x512x64x128 : Shape := ⟨4, ![4, 512, 64, 128]⟩
abbrev S1x1x64x128 : Shape := ⟨4, ![1, 1, 64, 128]⟩
abbrev S4x128x512x64 : Shape := ⟨4, ![4, 128, 512, 64]⟩

abbrev nBuf : Space → Nat
  | .hbm => 23
  | .vmem => 0
  | .smem => 0
  | _ => 0

abbrev bufTy : (tb : Table) → Fin (tcTables nBuf tb) → BufTy
  | .hbm, ⟨0, _⟩ => ⟨S4x2x512x1025, .f32⟩
  | .hbm, ⟨1, _⟩ => ⟨S64x2x125x128, .f32⟩
  | .hbm, ⟨2, _⟩ => ⟨S64x128, .f32⟩
  | .hbm, ⟨3, _⟩ => ⟨S64x125, .i32⟩
  | .hbm, ⟨4, _⟩ => ⟨S64x125, .f32⟩
  | .hbm, ⟨5, _⟩ => ⟨S_, .i32⟩
  | .hbm, ⟨6, _⟩ => ⟨S64x125, .i32⟩
  | .hbm, ⟨7, _⟩ => ⟨S64x125, .i1⟩
  | .hbm, ⟨8, _⟩ => ⟨S_, .i32⟩
  | .hbm, ⟨9, _⟩ => ⟨S64x125, .i32⟩
  | .hbm, ⟨10, _⟩ => ⟨S64x125, .i32⟩
  | .hbm, ⟨11, _⟩ => ⟨S64x125, .i32⟩
  | .hbm, ⟨12, _⟩ => ⟨S64x125x1, .i32⟩
  | .hbm, ⟨13, _⟩ => ⟨S4x2x512x64x125, .f32⟩
  | .hbm, ⟨14, _⟩ => ⟨S1x1x1x64x125, .f32⟩
  | .hbm, ⟨15, _⟩ => ⟨S4x2x512x64x125, .f32⟩
  | .hbm, ⟨16, _⟩ => ⟨S4x2x512x64x125, .f32⟩
  | .hbm, ⟨17, _⟩ => ⟨S64x128x4x512, .f32⟩
  | .hbm, ⟨18, _⟩ => ⟨S4x512x64x128, .f32⟩
  | .hbm, ⟨19, _⟩ => ⟨S1x1x64x128, .f32⟩
  | .hbm, ⟨20, _⟩ => ⟨S4x512x64x128, .f32⟩
  | .hbm, ⟨21, _⟩ => ⟨S4x512x64x128, .f32⟩
  | .hbm, ⟨22, _⟩ => ⟨S4x128x512x64, .f32⟩
  | _, _ => ⟨S4x2x512x1025, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Ideal.BandVal.lean ====
module

public import proofs.«01_k».proof.Proof.Gen.KernelIdeal.Regions
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.ValueIdx
public import Idealize.ShloMosaic.Lib.Writes

/-!
# What the second kernel body computes

The values of the second body by name: the input widened with zero columns, a window of 256 columns of it, a band's
prepared weight rows, and the output block, which is the sum of two products and the bias.
-/

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

/-- The padded input the first grid point leaves in the scratch: the input's columns rounded to
    bfloat16, then zero columns up to a whole number of lane tiles. -/
def pad (x : S4x2x512x1025.Idx → Elt F .f32) : S4x2x512x1280.Idx → Elt F .bf16 := fun y =>
  if h : (y 3).val < 1025 then
    k1_pay2 (F := F) (fun j => x (ix4 (y 0) (y 1) (j 2) (j 3))) (ix4 0 0 (y 2) ⟨(y 3).val, h⟩)
  else k1_pay3 (F := F) (ix4 0 0 (y 2) 0)

/-- The 256 columns of channel `ch` that a band with start bin `word` works on. -/
def cols (word : Elt F .i32) (ch : Fin 2) (xb : S4x2x512x1280.Idx → Elt F .bf16) : S4x1x512x256.Idx → Elt F .bf16 :=
  fun j => xb (ix4 (j 0) ch (j 2) ⟨(k1_off2 word 3 + (j 3).val) % 1280, Nat.mod_lt _ (by decide)⟩)

/-- The prepared weights of band `s` and channel `ch`. -/
def wts (s : Fin 64) (ch : Fin 2) (W : S64x2x256x128.Idx → Elt F .bf16) : S1x1x256x128.Idx → Elt F .bf16 :=
  fun j => W (ix4 s ch (j 2) (j 3))

/-- One band's output block: both channels' products and the bias. -/
def bandOut (word : Elt F .i32) (s : Fin 64) (xb : S4x2x512x1280.Idx → Elt F .bf16) (W : S64x2x256x128.Idx → Elt F .bf16)
    (B : S64x1x128.Idx → Elt F .f32) : S1x4x512x128.Idx → Elt F .f32 :=
  k1_pay1 (k1_pay20 (cols word 1 xb)) (k1_pay21 (cols word 0 xb) (wts s 0 W)) (wts s 1 W) (fun j => B (ix3 s 0 (j 2)))

/-- A piece of input columns stored in the scratch agrees with the padded input. -/
theorem piece_x (arg2 : Memref sig .tc .vmem S4x2x512x1025 .f32) (X2 : BufTy.Contents (Elt F) arg2.view.ty) (b : Fin 4) (ch : Fin 2)
    (off : Fin 4 → ℕ) (e : off = ![b.val, ch.val, 0, 0]) (inb inb') (x : S1x1x512x1025.Idx) :
    k1_pay2 (F := F) (arg2.view.readAt (Elt F) (Rect.unit (s := S4x2x512x1025) off S1x1x512x1025.size inb).toLoadRect X2) x
      = pad (arg2.view.read (Elt F) X2) ((Rect.unit (s := S4x2x512x1280) off S1x1x512x1025.size inb').emb x) := by
  subst e
  have h0 : (x 0).val < 1 := (x 0).isLt
  have h1 : (x 1).val < 1 := (x 1).isLt
  have h3 : (x 3).val < 1025 := (x 3).isLt
  have hy : (Rect.unit (s := S4x2x512x1280) ![b.val, ch.val, 0, 0] S1x1x512x1025.size inb').emb x
      = ix4 b ch (x 2) ⟨(x 3).val, by omega⟩ := by
    funext a; apply Fin.ext
    match a with
    | ⟨0, _⟩ => show b.val + 1 * (x 0).val = b.val; omega
    | ⟨1, _⟩ => show ch.val + 1 * (x 1).val = ch.val; omega
    | ⟨2, _⟩ => show 0 + 1 * (x 2).val = (x 2).val; omega
    | ⟨3, _⟩ => show 0 + 1 * (x 3).val = (x 3).val; omega
  have hx : x = ix4 0 0 (x 2) (x 3) := by
    funext a; apply Fin.ext
    match a with
    | ⟨0, _⟩ => show (x 0).val = 0; omega
    | ⟨1, _⟩ => show (x 1).val = 0; omega
    | ⟨2, _⟩ => rfl
    | ⟨3, _⟩ => rfl
  have hl : arg2.view.readAt (Elt F) (Rect.unit (s := S4x2x512x1025) ![b.val, ch.val, 0, 0] S1x1x512x1025.size inb).toLoadRect X2
      = fun j => arg2.view.read (Elt F) X2 (ix4 b ch (j 2) (j 3)) := by
    funext j
    rw [View.readAt_apply]
    congr 1
    have g0 : (j 0).val < 1 := (j 0).isLt
    have g1 : (j 1).val < 1 := (j 1).isLt
    funext a; apply Fin.ext
    match a with
    | ⟨0, _⟩ => show b.val + 1 * (j 0).val = b.val; omega
    | ⟨1, _⟩ => show ch.val + 1 * (j 1).val = ch.val; omega
    | ⟨2, _⟩ => show 0 + 1 * (j 2).val = (j 2).val; omega
    | ⟨3, _⟩ => show 0 + 1 * (j 3).val = (j 3).val; omega
  rw [hy, hl]
  refine Eq.trans ?_ (dif_pos h3).symm
  exact congrArg _ hx

/-- A piece of zero columns stored in the scratch agrees with the padded input. -/
theorem piece_0 (G : S4x2x512x1025.Idx → Elt F .f32) (b : Fin 4) (ch : Fin 2)
    (off : Fin 4 → ℕ) (e : off = ![b.val, ch.val, 0, 1025]) (inb) (x : S1x1x512x255.Idx) :
    k1_pay3 (F := F) x = pad G ((Rect.unit (s := S4x2x512x1280) off S1x1x512x255.size inb).emb x) := by
  subst e
  refine Eq.trans ?_ (dif_neg ?_).symm
  · rfl
  · show ¬ (1025 + 1 * (x 3).val < 1025)
    omega

/-- The sixteen pieces the first grid point stores, newest first, cover the scratch and hold the padded input. -/
theorem read_pieces (arg2 : Memref sig .tc .vmem S4x2x512x1025 .f32) (X2 : BufTy.Contents (Elt F) arg2.view.ty)
    (arg6 : Memref sig .tc .vmem S4x2x512x1280 .bf16) (f : BufTy.Contents (Elt F) arg6.view.ty)
    (L : List (View.Piece (Elt F) S4x2x512x1280 .bf16))
    (hx : ∀ (b : Fin 4) (ch : Fin 2), ∃ (inb inb' : _),
      (⟨Rect.unit (s := S4x2x512x1280) ![b.val, ch.val, 0, 0] S1x1x512x1025.size inb',
        k1_pay2 (arg2.view.readAt (Elt F) (Rect.unit (s := S4x2x512x1025) ![b.val, ch.val, 0, 0] S1x1x512x1025.size inb).toLoadRect X2)⟩
        : View.Piece (Elt F) S4x2x512x1280 .bf16) ∈ L)
    (h0 : ∀ (b : Fin 4) (ch : Fin 2), ∃ inb,
      (⟨Rect.unit (s := S4x2x512x1280) ![b.val, ch.val, 0, 1025] S1x1x512x255.size inb, k1_pay3⟩ : View.Piece (Elt F) S4x2x512x1280 .bf16) ∈ L)
    (hL : ∀ p ∈ L, (∃ (b : Fin 4) (ch : Fin 2) (inb inb' : _), p = ⟨Rect.unit (s := S4x2x512x1280) ![b.val, ch.val, 0, 0] S1x1x512x1025.size inb',
        k1_pay2 (arg2.view.readAt (Elt F) (Rect.unit (s := S4x2x512x1025) ![b.val, ch.val, 0, 0] S1x1x512x1025.size inb).toLoadRect X2)⟩)
      ∨ (∃ (b : Fin 4) (ch : Fin 2) (inb : _), p = ⟨Rect.unit (s := S4x2x512x1280) ![b.val, ch.val, 0, 1025] S1x1x512x255.size inb, k1_pay3⟩)) :
    arg6.view.read (Elt F) (arg6.view.writes (Elt F) f L) = pad (arg2.view.read (Elt F) X2) := by
  funext y
  refine View.read_writes_apply_of_pieces _ _ (pad (arg2.view.read (Elt F) X2)) L ?_ y ?_
  · intro p hp x
    rcases hL p hp with ⟨b, ch, inb, inb', rfl⟩ | ⟨b, ch, inb, rfl⟩
    · exact piece_x arg2 X2 b ch _ rfl inb inb' x
    · exact piece_0 _ b ch _ rfl inb x
  · have hy2 : (y 2).val < 512 := (y 2).isLt
    have hy3 : (y 3).val < 1280 := (y 3).isLt
    rcases Nat.lt_or_ge (y 3).val 1025 with h | h
    · obtain ⟨inb, inb', hm⟩ := hx (y 0) (y 1)
      refine ⟨_, hm, ?_⟩
      rw [Rect.mem_set_unit]
      intro a
      match a with
      | ⟨0, _⟩ => exact ⟨Nat.le_refl _, Nat.lt_succ_self _⟩
      | ⟨1, _⟩ => exact ⟨Nat.le_refl _, Nat.lt_succ_self _⟩
      | ⟨2, _⟩ => exact ⟨Nat.zero_le _, by show (y 2).val < 0 + 512; omega⟩
      | ⟨3, _⟩ => exact ⟨Nat.zero_le _, by show (y 3).val < 0 + 1025; omega⟩
    · obtain ⟨inb, hm⟩ := h0 (y 0) (y 1)
      refine ⟨_, hm, ?_⟩
      rw [Rect.mem_set_unit]
      intro a
      match a with
      | ⟨0, _⟩ => exact ⟨Nat.le_refl _, Nat.lt_succ_self _⟩
      | ⟨1, _⟩ => exact ⟨Nat.le_refl _, Nat.lt_succ_self _⟩
      | ⟨2, _⟩ => exact ⟨Nat.zero_le _, by show (y 2).val < 0 + 512; omega⟩
      | ⟨3, _⟩ => exact ⟨h, by show (y 3).val < 1025 + 255; omega⟩

/-- The columns, weights and bias as a grid point loads them. -/
theorem load_cols (arg6 : Memref sig .tc .vmem S4x2x512x1280 .bf16) (f : BufTy.Contents (Elt F) arg6.view.ty) (word : Elt F .i32) (ch : Fin 2)
    (off : Fin 4 → ℕ) (h0 : off 0 = 0) (h1 : off 1 = ch.val) (h2 : off 2 = 0) (h3 : off 3 = k1_off2 word 3) (inb) :
    arg6.view.readAt (Elt F) (Rect.unit (s := S4x2x512x1280) off S4x1x512x256.size inb).toLoadRect f
      = cols word ch (arg6.view.read (Elt F) f) := by
  funext j
  rw [View.readAt_apply]
  show arg6.view.read (Elt F) f _ = arg6.view.read (Elt F) f _
  congr 1
  have i3 : off 3 + 256 ≤ 1280 := inb 3
  have g1 : (j 1).val < 1 := (j 1).isLt
  have g3 : (j 3).val < 256 := (j 3).isLt
  funext a; apply Fin.ext
  match a with
  | ⟨0, _⟩ => show off 0 + 1 * (j 0).val = (j 0).val; omega
  | ⟨1, _⟩ => show off 1 + 1 * (j 1).val = ch.val; omega
  | ⟨2, _⟩ => show off 2 + 1 * (j 2).val = (j 2).val; omega
  | ⟨3, _⟩ => show off 3 + 1 * (j 3).val = (k1_off2 word 3 + (j 3).val) % 1280; omega

theorem load_wts (arg3 : Memref sig .tc .vmem S64x2x256x128 .bf16) (X3 : BufTy.Contents (Elt F) arg3.view.ty) (s : Fin 64) (ch : Fin 2)
    (off : Fin 4 → ℕ) (e : off = ![s.val, ch.val, 0, 0]) (inb) :
    arg3.view.readAt (Elt F) (Rect.unit (s := S64x2x256x128) off S1x1x256x128.size inb).toLoadRect X3 = wts s ch (arg3.view.read (Elt F) X3) := by
  subst e
  funext j
  rw [View.readAt_apply]
  show arg3.view.read (Elt F) X3 _ = arg3.view.read (Elt F) X3 _
  congr 1
  have g0 : (j 0).val < 1 := (j 0).isLt
  have g1 : (j 1).val < 1 := (j 1).isLt
  funext a; apply Fin.ext
  match a with
  | ⟨0, _⟩ => show s.val + 1 * (j 0).val = s.val; omega
  | ⟨1, _⟩ => show ch.val + 1 * (j 1).val = ch.val; omega
  | ⟨2, _⟩ => show 0 + 1 * (j 2).val = (j 2).val; omega
  | ⟨3, _⟩ => show 0 + 1 * (j 3).val = (j 3).val; omega

theorem load_bias (arg4 : Memref sig .tc .vmem S64x1x128 .f32) (X4 : BufTy.Contents (Elt F) arg4.view.ty) (s : Fin 64)
    (off : Fin 3 → ℕ) (e : off = ![s.val, 0, 0]) (inb) :
    arg4.view.readAt (Elt F) (Rect.unit (s := S64x1x128) off S1x1x128.size inb).toLoadRect X4
      = fun j => arg4.view.read (Elt F) X4 (ix3 s 0 (j 2)) := by
  subst e
  funext j
  rw [View.readAt_apply]
  congr 1
  have g0 : (j 0).val < 1 := (j 0).isLt
  have g1 : (j 1).val < 1 := (j 1).isLt
  funext a; apply Fin.ext
  match a with
  | ⟨0, _⟩ => show s.val + 1 * (j 0).val = s.val; omega
  | ⟨1, _⟩ => show 0 + 1 * (j 1).val = 0; omega
  | ⟨2, _⟩ => show 0 + 1 * (j 2).val = (j 2).val; omega

theorem load_word (arg1 : Memref sig .tc .smem S64 .i32) (X1 : BufTy.Contents (Elt F) arg1.view.ty) (i : grid1.Coords) (s : Fin 64)
    (hs : s.val = (i 0).val) (j : S1.Idx) :
    arg1.view.readAt (Elt F) (Rect.unit (s := S64) (k1_off1 i) S1.size (k1_off1_inb i)).toLoadRect X1 j
      = arg1.view.read (Elt F) X1 (ValueIdx.ix1 s) := by
  rw [View.readAt_apply]
  congr 1
  funext a; apply Fin.ext
  refine (congrArg (· + 1 * (j a).val) (congrFun (k1_off1_eq i) a)).trans ?_
  have hj : (j 0).val < 1 := (j 0).isLt
  match a with
  | ⟨0, _⟩ => show (i 0).val + 1 * (j 0).val = s.val; omega

/-- The block a grid point stores, from the scratch holding the padded input. -/
theorem read_out (arg5 : Memref sig .tc .vmem S1x4x512x128 .f32) (f : BufTy.Contents (Elt F) arg5.view.ty)
    (off : Fin 4 → ℕ) (e : off = ![0, 0, 0, 0]) (inb) (w : FVec F S1x4x512x128 .f32) :
    arg5.view.read (Elt F) (arg5.view.writes (Elt F) f [⟨Rect.unit (s := S1x4x512x128) off S1x4x512x128.size inb, w⟩]) = w := by
  subst e
  funext y
  have key : (Rect.unit (s := S1x4x512x128) ![0, 0, 0, 0] S1x4x512x128.size inb).emb y = y := by
    funext a; apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
    | ⟨3, _⟩ => show 0 + 1 * (y 3).val = (y 3).val; omega
  conv_lhs => rw [← key]
  exact View.read_writes_cons_emb (Val := Elt F) arg5.view f (Rect.unit (s := S1x4x512x128) ![0, 0, 0, 0] S1x4x512x128.size inb) w [] y

end Cert.KernelIdeal.Band

end
-- ==== Proof.Ideal.BandRun.lean ====
module

public import proofs.«01_k».proof.Proof.Gen.KernelIdeal.Regions
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.ValueIdx
public import Idealize.ShloMosaic.Lib.Writes
public import proofs.«01_k».proof.Proof.Ideal.BandVal

/-!
# The second kernel body

The body at the first grid point, where it also fills the scratch with the widened input, and at a later point, where
it finds the scratch filled. Both leave the band's output block.
-/

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

local notation "𝕄" => MT nD τ sig Unit (Elt F) ℕ (UR sig nD τ) ℕ

/-- The first grid point's test, as the kernel computes it. -/
abbrev first (i : grid1.Coords) : Prop :=
  Scalar.cmpi .ne (Scalar.extui (Scalar.cmpi .eq (BitVec.ofNat 32 (i 0).val) 0#32)) 0#32 = 1#1

variable (𝒱 : Variants) (c : Dev nD) (bd : Option 𝒱.V) (i : grid1.Coords)
  (arg1 : Memref sig .tc .smem S64 .i32) (harg1 : arg1.IsWhole) (arg2 : Memref sig .tc .vmem S4x2x512x1025 .f32) (harg2 : arg2.IsWhole)
  (arg3 : Memref sig .tc .vmem S64x2x256x128 .bf16) (harg3 : arg3.IsWhole) (arg4 : Memref sig .tc .vmem S64x1x128 .f32) (harg4 : arg4.IsWhole)
  (arg5 : Memref sig .tc .vmem S1x4x512x128 .f32) (harg5 : arg5.IsWhole) (arg6 : Memref sig .tc .vmem S4x2x512x1280 .bf16) (harg6 : arg6.IsWhole)
  (X1 : BufTy.Contents (Elt F) arg1.view.ty) (X2 : BufTy.Contents (Elt F) arg2.view.ty) (X3 : BufTy.Contents (Elt F) arg3.view.ty)
  (X4 : BufTy.Contents (Elt F) arg4.view.ty)

/-- The block's store in terms of the scratch the two columns loads read. -/
theorem out_eq (s : Fin 64) (hs : s.val = (i 0).val) (word : Elt F .i32) (hword : word = arg1.view.read (Elt F) X1 (ValueIdx.ix1 s))
    (hchk : k1_chk1 word) (f5 : BufTy.Contents (Elt F) arg5.view.ty)
    (f6 : BufTy.Contents (Elt F) arg6.view.ty) (hf6 : arg6.view.read (Elt F) f6 = pad (arg2.view.read (Elt F) X2)) :
    arg5.view.read (Elt F) (arg5.view.writes (Elt F) f5
      [⟨Rect.unit (s := S1x4x512x128) ![0, 0, 0, 0] S1x4x512x128.size inb_S1x4x512x128_S1x4x512x128_0_0_0_0,
        k1_pay1 (k1_pay20 (arg6.view.readAt (Elt F) (Rect.unit (s := S4x2x512x1280) (k1_off3 word) S4x1x512x256.size (k1_off3_inb word hchk)).toLoadRect f6))
          (k1_pay21 (arg6.view.readAt (Elt F) (Rect.unit (s := S4x2x512x1280) (k1_off2 word) S4x1x512x256.size (k1_off2_inb word hchk)).toLoadRect f6)
            (arg3.view.readAt (Elt F) (Rect.unit (s := S64x2x256x128) (k1_off4 i) S1x1x256x128.size (k1_off4_inb i)).toLoadRect X3))
          (arg3.view.readAt (Elt F) (Rect.unit (s := S64x2x256x128) (k1_off5 i) S1x1x256x128.size (k1_off5_inb i)).toLoadRect X3)
          (arg4.view.readAt (Elt F) (Rect.unit (s := S64x1x128) (k1_off6 i) S1x1x128.size (k1_off6_inb i)).toLoadRect X4)⟩])
      = bandOut (arg1.view.read (Elt F) X1 (ValueIdx.ix1 s)) s (pad (arg2.view.read (Elt F) X2))
            (arg3.view.read (Elt F) X3) (arg4.view.read (Elt F) X4) := by
  rw [read_out arg5 f5 _ rfl, load_cols arg6 f6 word 1 (k1_off3 word) rfl rfl rfl rfl, load_cols arg6 f6 word 0 (k1_off2 word) rfl rfl rfl rfl,
    load_wts arg3 X3 s 0 (k1_off4 i) (by rw [hs]; exact k1_off4_eq i), load_wts arg3 X3 s 1 (k1_off5 i) (by rw [hs]; exact k1_off5_eq i),
    load_bias arg4 X4 s (k1_off6 i) (by rw [hs]; exact k1_off6_eq i), hf6, hword]
  rfl

set_option maxHeartbeats 1000000 in
/-- A later grid point: the scratch already holds the padded input. -/
theorem run_later (hfst : ¬ first i) (s : Fin 64) (hs : s.val = (i 0).val)
    (st : S64.Idx → Elt F .i32) (hst : k1_chk1 (st (ValueIdx.ix1 s))) (x : S4x2x512x1025.Idx → Elt F .f32)
    (W : S64x2x256x128.Idx → Elt F .bf16) (B : S64x1x128.Idx → Elt F .f32) (d5 : S1x4x512x128.Idx → Elt F .f32)
    (E : Set ℕ) (Q : PUnit → sProp 𝕄) :
    iprop(owns (c : Thread nD τ) arg1 fullShare st ∗ owns (c : Thread nD τ) arg2 fullShare x ∗ owns (c : Thread nD τ) arg3 fullShare W
      ∗ owns (c : Thread nD τ) arg4 fullShare B ∗ owns (c : Thread nD τ) arg5 fullShare d5 ∗ owns (c : Thread nD τ) arg6 fullShare (pad x)
      ∗ (iprop(owns (c : Thread nD τ) arg1 fullShare st ∗ owns (c : Thread nD τ) arg2 fullShare x ∗ owns (c : Thread nD τ) arg3 fullShare W
          ∗ owns (c : Thread nD τ) arg4 fullShare B ∗ owns (c : Thread nD τ) arg5 fullShare (bandOut (st (ValueIdx.ix1 s)) s (pad x) W B)
          ∗ owns (c : Thread nD τ) arg6 fullShare (pad x)) -∗ Q ⟨⟩))
      ⊢ wp frame (wpE (defs₀ (F := F)) 𝒱 (c : Thread nD τ) bd) E
          (cc1__band_kernel (F := F) i arg1 harg1 arg2 harg2 arg3 harg3 arg4 harg4 arg5 harg5 arg6 harg6) Q := by
  unfold owns
  iintro ⟨⟨%X1, %e1, H1⟩, ⟨%X2, %e2, H2⟩, ⟨%X3, %e3, H3⟩, ⟨%X4, %e4, H4⟩, ⟨%f5, -, H5⟩, ⟨%f6, %e6, H6⟩, Hk⟩
  subst e1 e2 e3 e4
  have hw : ∀ j, k1_chk1 (arg1.view.readAt (Elt F) (Rect.unit (s := S64) (k1_off1 i) S1.size (k1_off1_inb i)).toLoadRect X1 j) :=
    fun j => by rw [load_word arg1 X1 i s hs j]; exact hst
  sl_exec!
  sl_step
  iapply Hk
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  isplitl [H5]
  · iexists _; isplitr; swap; (· iexact H5)
    ipureintro
    exact out_eq i arg1 arg2 arg3 arg4 arg5 arg6 X1 X2 X3 X4 s hs _ (load_word arg1 X1 i s hs _) (hw _) _ _ e6
  iexists _; isplitr; swap; (· iexact H6)
  ipureintro
  exact e6

set_option maxHeartbeats 1000000 in
/-- The first grid point: it fills the scratch, then works as the others do. -/
theorem run_first (hfst : first i) (s : Fin 64) (hs : s.val = (i 0).val)
    (st : S64.Idx → Elt F .i32) (hst : k1_chk1 (st (ValueIdx.ix1 s))) (x : S4x2x512x1025.Idx → Elt F .f32)
    (W : S64x2x256x128.Idx → Elt F .bf16) (B : S64x1x128.Idx → Elt F .f32) (d5 : S1x4x512x128.Idx → Elt F .f32) (d6 : S4x2x512x1280.Idx → Elt F .bf16)
    (E : Set ℕ) (Q : PUnit → sProp 𝕄) :
    iprop(owns (c : Thread nD τ) arg1 fullShare st ∗ owns (c : Thread nD τ) arg2 fullShare x ∗ owns (c : Thread nD τ) arg3 fullShare W
      ∗ owns (c : Thread nD τ) arg4 fullShare B ∗ owns (c : Thread nD τ) arg5 fullShare d5 ∗ owns (c : Thread nD τ) arg6 fullShare d6
      ∗ (iprop(owns (c : Thread nD τ) arg1 fullShare st ∗ owns (c : Thread nD τ) arg2 fullShare x ∗ owns (c : Thread nD τ) arg3 fullShare W
          ∗ owns (c : Thread nD τ) arg4 fullShare B ∗ owns (c : Thread nD τ) arg5 fullShare (bandOut (st (ValueIdx.ix1 s)) s (pad x) W B)
          ∗ owns (c : Thread nD τ) arg6 fullShare (pad x)) -∗ Q ⟨⟩))
      ⊢ wp frame (wpE (defs₀ (F := F)) 𝒱 (c : Thread nD τ) bd) E
          (cc1__band_kernel (F := F) i arg1 harg1 arg2 harg2 arg3 harg3 arg4 harg4 arg5 harg5 arg6 harg6) Q := by
  unfold owns
  iintro ⟨⟨%X1, %e1, H1⟩, ⟨%X2, %e2, H2⟩, ⟨%X3, %e3, H3⟩, ⟨%X4, %e4, H4⟩, ⟨%f5, -, H5⟩, ⟨%f6, -, H6⟩, Hk⟩
  subst e1 e2 e3 e4
  have hw : ∀ j, k1_chk1 (arg1.view.readAt (Elt F) (Rect.unit (s := S64) (k1_off1 i) S1.size (k1_off1_inb i)).toLoadRect X1 j) :=
    fun j => by rw [load_word arg1 X1 i s hs j]; exact hst
  sl_exec!
  sl_step
  have h6 : arg6.view.read (Elt F) (arg6.view.writes (Elt F) arg6.view.junk (run_first.sl.H6_16 c arg2 X2)) = pad (arg2.view.read (Elt F) X2) := by
    refine read_pieces arg2 X2 arg6 _ _ ?_ ?_ ?_
    · intro b ch
      match b, ch with
      | 0, 0 => exact ⟨inb_S4x2x512x1025_S1x1x512x1025_0_0_0_0, inb_S4x2x512x1280_S1x1x512x1025_0_0_0_0, List.mem_of_getElem? (i := 15) rfl⟩
      | 0, 1 => exact ⟨inb_S4x2x512x1025_S1x1x512x1025_0_1_0_0, inb_S4x2x512x1280_S1x1x512x1025_0_1_0_0, List.mem_of_getElem? (i := 13) rfl⟩
      | 1, 0 => exact ⟨inb_S4x2x512x1025_S1x1x512x1025_1_0_0_0, inb_S4x2x512x1280_S1x1x512x1025_1_0_0_0, List.mem_of_getElem? (i := 11) rfl⟩
      | 1, 1 => exact ⟨inb_S4x2x512x1025_S1x1x512x1025_1_1_0_0, inb_S4x2x512x1280_S1x1x512x1025_1_1_0_0, List.mem_of_getElem? (i := 9) rfl⟩
      | 2, 0 => exact ⟨inb_S4x2x512x1025_S1x1x512x1025_2_0_0_0, inb_S4x2x512x1280_S1x1x512x1025_2_0_0_0, List.mem_of_getElem? (i := 7) rfl⟩
      | 2, 1 => exact ⟨inb_S4x2x512x1025_S1x1x512x1025_2_1_0_0, inb_S4x2x512x1280_S1x1x512x1025_2_1_0_0, List.mem_of_getElem? (i := 5) rfl⟩
      | 3, 0 => exact ⟨inb_S4x2x512x1025_S1x1x512x1025_3_0_0_0, inb_S4x2x512x1280_S1x1x512x1025_3_0_0_0, List.mem_of_getElem? (i := 3) rfl⟩
      | 3, 1 => exact ⟨inb_S4x2x512x1025_S1x1x512x1025_3_1_0_0, inb_S4x2x512x1280_S1x1x512x1025_3_1_0_0, List.mem_of_getElem? (i := 1) rfl⟩
    · intro b ch
      match b, ch with
      | 0, 0 => exact ⟨inb_S4x2x512x1280_S1x1x512x255_0_0_0_1025, List.mem_of_getElem? (i := 14) rfl⟩
      | 0, 1 => exact ⟨inb_S4x2x512x1280_S1x1x512x255_0_1_0_1025, List.mem_of_getElem? (i := 12) rfl⟩
      | 1, 0 => exact ⟨inb_S4x2x512x1280_S1x1x512x255_1_0_0_1025, List.mem_of_getElem? (i := 10) rfl⟩
      | 1, 1 => exact ⟨inb_S4x2x512x1280_S1x1x512x255_1_1_0_1025, List.mem_of_getElem? (i := 8) rfl⟩
      | 2, 0 => exact ⟨inb_S4x2x512x1280_S1x1x512x255_2_0_0_1025, List.mem_of_getElem? (i := 6) rfl⟩
      | 2, 1 => exact ⟨inb_S4x2x512x1280_S1x1x512x255_2_1_0_1025, List.mem_of_getElem? (i := 4) rfl⟩
      | 3, 0 => exact ⟨inb_S4x2x512x1280_S1x1x512x255_3_0_0_1025, List.mem_of_getElem? (i := 2) rfl⟩
      | 3, 1 => exact ⟨inb_S4x2x512x1280_S1x1x512x255_3_1_0_1025, List.mem_of_getElem? (i := 0) rfl⟩
    · refine List.forall_mem_cons.2 ⟨Or.inr ⟨3, 1, inb_S4x2x512x1280_S1x1x512x255_3_1_0_1025, rfl⟩, ?_⟩
      refine List.forall_mem_cons.2 ⟨Or.inl ⟨3, 1, inb_S4x2x512x1025_S1x1x512x1025_3_1_0_0, inb_S4x2x512x1280_S1x1x512x1025_3_1_0_0, rfl⟩, ?_⟩
      refine List.forall_mem_cons.2 ⟨Or.inr ⟨3, 0, inb_S4x2x512x1280_S1x1x512x255_3_0_0_1025, rfl⟩, ?_⟩
      refine List.forall_mem_cons.2 ⟨Or.inl ⟨3, 0, inb_S4x2x512x1025_S1x1x512x1025_3_0_0_0, inb_S4x2x512x1280_S1x1x512x1025_3_0_0_0, rfl⟩, ?_⟩
      refine List.forall_mem_cons.2 ⟨Or.inr ⟨2, 1, inb_S4x2x512x1280_S1x1x512x255_2_1_0_1025, rfl⟩, ?_⟩
      refine List.forall_mem_cons.2 ⟨Or.inl ⟨2, 1, inb_S4x2x512x1025_S1x1x512x1025_2_1_0_0, inb_S4x2x512x1280_S1x1x512x1025_2_1_0_0, rfl⟩, ?_⟩
      refine List.forall_mem_cons.2 ⟨Or.inr ⟨2, 0, inb_S4x2x512x1280_S1x1x512x255_2_0_0_1025, rfl⟩, ?_⟩
      refine List.forall_mem_cons.2 ⟨Or.inl ⟨2, 0, inb_S4x2x512x1025_S1x1x512x1025_2_0_0_0, inb_S4x2x512x1280_S1x1x512x1025_2_0_0_0, rfl⟩, ?_⟩
      refine List.forall_mem_cons.2 ⟨Or.inr ⟨1, 1, inb_S4x2x512x1280_S1x1x512x255_1_1_0_1025, rfl⟩, ?_⟩
      refine List.forall_mem_cons.2 ⟨Or.inl ⟨1, 1, inb_S4x2x512x1025_S1x1x512x1025_1_1_0_0, inb_S4x2x512x1280_S1x1x512x1025_1_1_0_0, rfl⟩, ?_⟩
      refine List.forall_mem_cons.2 ⟨Or.inr ⟨1, 0, inb_S4x2x512x1280_S1x1x512x255_1_0_0_1025, rfl⟩, ?_⟩
      refine List.forall_mem_cons.2 ⟨Or.inl ⟨1, 0, inb_S4x2x512x1025_S1x1x512x1025_1_0_0_0, inb_S4x2x512x1280_S1x1x512x1025_1_0_0_0, rfl⟩, ?_⟩
      refine List.forall_mem_cons.2 ⟨Or.inr ⟨0, 1, inb_S4x2x512x1280_S1x1x512x255_0_1_0_1025, rfl⟩, ?_⟩
      refine List.forall_mem_cons.2 ⟨Or.inl ⟨0, 1, inb_S4x2x512x1025_S1x1x512x1025_0_1_0_0, inb_S4x2x512x1280_S1x1x512x1025_0_1_0_0, rfl⟩, ?_⟩
      refine List.forall_mem_cons.2 ⟨Or.inr ⟨0, 0, inb_S4x2x512x1280_S1x1x512x255_0_0_0_1025, rfl⟩, ?_⟩
      refine List.forall_mem_cons.2 ⟨Or.inl ⟨0, 0, inb_S4x2x512x1025_S1x1x512x1025_0_0_0_0, inb_S4x2x512x1280_S1x1x512x1025_0_0_0_0, rfl⟩, ?_⟩
      exact fun p hp => absurd hp List.not_mem_nil
  iapply Hk
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  isplitl [H5]
  · iexists _; isplitr; swap; (· iexact H5)
    ipureintro
    exact out_eq i arg1 arg2 arg3 arg4 arg5 arg6 X1 X2 X3 X4 s hs _ (load_word arg1 X1 i s hs _) (hw _) _ _ h6
  iexists _; isplitr; swap; (· iexact H6)
  ipureintro
  exact h6

end Cert.KernelIdeal.Band

end
-- ==== Proof.Ideal.PrepRun.lean ====
module

public import proofs.«01_k».proof.Proof.Gen.KernelIdeal.Regions
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.ValueIdx
public import Idealize.ShloMosaic.Lib.Writes

/-!
# The first kernel body

The body goes through the 64 bands in a counted loop. For each band and each of its two channels it masks the 125
weight rows, adds zero rows up to 256, rotates the rows down by the start bin modulo 128, and stores them. Its loop
invariant says that the bands before the present one hold their prepared rows.
-/

@[expose] public section

set_option maxRecDepth 16384

noncomputable section

namespace Cert.KernelIdeal.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

local notation "𝕄" => MT nD τ sig Unit (Elt F) ℕ (UR sig nD τ) ℕ

/-- The prepared weights as one function of the start bins, the weights and the masks: the 256 rows
    of a band and channel are its masked weights followed by zero rows, rotated by the start bin. -/
def slab (st : S64.Idx → Elt F .i32) (w : S64x2x125x128.Idx → Elt F .f32) (mk : S64x1x125.Idx → Elt F .f32) :
    S64x2x256x128.Idx → Elt F .bf16 := fun y =>
  k0_pay4 (F := F) k0_pay1 (st (ValueIdx.ix1 (y 0))) (fun j => mk (ix3 (y 0) 0 (j 2))) (fun j => w (ix4 (y 0) (y 1) (j 2) (j 3)))
    (ix4 0 0 (y 2) (y 3))

section Trip

variable (c : Dev nD)
  (arg1 : Memref sig .tc .smem S64 .i32) (harg1 : arg1.IsWhole) (arg2 : Memref sig .tc .vmem S64x2x125x128 .f32) (harg2 : arg2.IsWhole)
  (arg3 : Memref sig .tc .vmem S64x1x125 .f32) (harg3 : arg3.IsWhole) (arg4 : Memref sig .tc .vmem S64x2x256x128 .bf16) (harg4 : arg4.IsWhole)
  (X1 : BufTy.Contents (Elt F) arg1.view.ty) (X2 : BufTy.Contents (Elt F) arg2.view.ty) (X3 : BufTy.Contents (Elt F) arg3.view.ty)

/-- Before trip `k` the three inputs are as given and the output's first `k` bands are prepared. -/
abbrev inv (k : ℕ) (_u : PUnit) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3)
    ∗ (∃ f, (arg4.view.loc (c : Thread nD τ) ↦[arg4.view.set]{fullShare} f)
        ∗ ⌜∀ y : S64x2x256x128.Idx, (y 0).val < k → arg4.view.read (Elt F) f y
            = slab (arg1.view.read (Elt F) X1) (arg2.view.read (Elt F) X2) (arg3.view.read (Elt F) X3) y⌝))

/-- A store of one band's one channel, read at a place of that band and channel. -/
theorem read_hit (f : BufTy.Contents (Elt F) arg4.view.ty) (off : Fin 4 → ℕ) (inb) (k : ℕ) (ch : ℕ) (e : off = ![k, ch, 0, 0])
    (w : FVec F S1x1x256x128 .bf16) (L : List (View.Piece (Elt F) S64x2x256x128 .bf16)) (y : S64x2x256x128.Idx)
    (h0 : (y 0).val = k) (h1 : (y 1).val = ch) (x : S1x1x256x128.Idx) (hx : x = ix4 0 0 (y 2) (y 3)) :
    arg4.view.read (Elt F) (arg4.view.writes (Elt F) f (⟨Rect.unit (s := S64x2x256x128) off S1x1x256x128.size inb, w⟩ :: L)) y = w x := by
  have key : (Rect.unit (s := S64x2x256x128) off S1x1x256x128.size inb).emb x = y := by
    funext a
    apply Fin.ext
    refine (congrArg (· + 1 * (x a).val) (congrFun e a)).trans ?_
    rw [hx]
    match a with
    | ⟨0, _⟩ => show k + 1 * 0 = (y 0).val; omega
    | ⟨1, _⟩ => show ch + 1 * 0 = (y 1).val; omega
    | ⟨2, _⟩ => show 0 + 1 * (y 2).val = (y 2).val; omega
    | ⟨3, _⟩ => show 0 + 1 * (y 3).val = (y 3).val; omega
  rw [← key]
  exact View.read_writes_cons_emb (Val := Elt F) arg4.view f (Rect.unit (s := S64x2x256x128) off S1x1x256x128.size inb) w L x

/-- The two stores of trip `k` prepare band `k` and leave the other bands alone. -/
theorem read_trip (f : BufTy.Contents (Elt F) arg4.view.ty) (k : Fin k0_t1_loop.trips) (w0 w1 : FVec F S1x1x256x128 .bf16)
    (G : S64x2x256x128.Idx → Elt F .bf16) (hk : k.val < 64)
    (hf : ∀ y : S64x2x256x128.Idx, (y 0).val < k.val → arg4.view.read (Elt F) f y = G y)
    (h0 : ∀ (r : Fin 256) (o : Fin 128), w0 (ix4 0 0 r o) = G (ix4 ⟨k.val, hk⟩ 0 r o))
    (h1 : ∀ (r : Fin 256) (o : Fin 128), w1 (ix4 0 0 r o) = G (ix4 ⟨k.val, hk⟩ 1 r o))
    (y : S64x2x256x128.Idx) (hy : (y 0).val < k.val + 1) :
    arg4.view.read (Elt F) (arg4.view.writes (Elt F) f
      [⟨Rect.unit (s := S64x2x256x128) (k0_off6 k) S1x1x256x128.size (k0_off6_inb k), w1⟩,
       ⟨Rect.unit (s := S64x2x256x128) (k0_off4 k) S1x1x256x128.size (k0_off4_inb k), w0⟩]) y = G y := by
  have e6 := k0_off6_eq k
  have e4 := k0_off4_eq k
  have hy1 : (y 1).val < 2 := (y 1).isLt
  rcases Nat.lt_or_ge (y 0).val k.val with hlt | hge
  · rw [View.read_writes_cons_miss_of_axis _ _ _ _ y 0 k.val 1 (by show k0_off6 k 0 = _; rw [e6]; rfl) rfl rfl (Or.inl hlt),
      View.read_writes_cons_miss_of_axis _ _ _ _ y 0 k.val 1 (by show k0_off4 k 0 = _; rw [e4]; rfl) rfl rfl (Or.inl hlt)]
    exact hf y hlt
  · have hk0 : (y 0).val = k.val := by omega
    rcases Nat.lt_or_ge (y 1).val 1 with hc | hc
    · rw [View.read_writes_cons_miss_of_axis _ _ _ _ y 1 1 1 (by show k0_off6 k 1 = _; rw [e6]; rfl) rfl rfl (Or.inl hc)]
      have hy' : y = ix4 ⟨k.val, hk⟩ 0 (y 2) (y 3) := by
        funext a; apply Fin.ext
        match a with
        | ⟨0, _⟩ => exact hk0
        | ⟨1, _⟩ => show (y 1).val = 0; omega
        | ⟨2, _⟩ => rfl
        | ⟨3, _⟩ => rfl
      refine (read_hit arg4 f _ _ k.val 0 e4 w0 _ y hk0 (by omega) _ rfl).trans ?_
      exact (h0 (y 2) (y 3)).trans (congrArg G hy'.symm)
    · have hy' : y = ix4 ⟨k.val, hk⟩ 1 (y 2) (y 3) := by
        funext a; apply Fin.ext
        match a with
        | ⟨0, _⟩ => exact hk0
        | ⟨1, _⟩ => show (y 1).val = 1; omega
        | ⟨2, _⟩ => rfl
        | ⟨3, _⟩ => rfl
      refine (read_hit arg4 f _ _ k.val 1 e6 w1 _ y hk0 (by omega) _ rfl).trans ?_
      exact (h1 (y 2) (y 3)).trans (congrArg G hy'.symm)

/-- A start bin, a mask row and a weight block as a trip loads them. -/
theorem load_start (k : Fin k0_t1_loop.trips) (hk : k.val < 64) (j : S1.Idx) :
    arg1.view.readAt (Elt F) (Rect.unit (s := S64) (k0_off1 k) S1.size (k0_off1_inb k)).toLoadRect X1 j
      = arg1.view.read (Elt F) X1 (ValueIdx.ix1 ⟨k.val, hk⟩) := by
  rw [View.readAt_apply]
  congr 1
  funext a; apply Fin.ext
  refine (congrArg (· + 1 * (j a).val) (congrFun (k0_off1_eq k) a)).trans ?_
  have hj : (j 0).val < 1 := (j 0).isLt
  match a with
  | ⟨0, _⟩ => show k.val + 1 * (j 0).val = k.val; omega

theorem load_mask (k : Fin k0_t1_loop.trips) (hk : k.val < 64) :
    arg3.view.readAt (Elt F) (Rect.unit (s := S64x1x125) (k0_off2 k) S1x1x125.size (k0_off2_inb k)).toLoadRect X3
      = fun j => arg3.view.read (Elt F) X3 (ix3 ⟨k.val, hk⟩ 0 (j 2)) := by
  funext j
  rw [View.readAt_apply]
  congr 1
  funext a; apply Fin.ext
  refine (congrArg (· + 1 * (j a).val) (congrFun (k0_off2_eq k) a)).trans ?_
  have hj : (j 0).val < 1 := (j 0).isLt
  have hj1 : (j 1).val < 1 := (j 1).isLt
  match a with
  | ⟨0, _⟩ => show k.val + 1 * (j 0).val = k.val; omega
  | ⟨1, _⟩ => show 0 + 1 * (j 1).val = 0; omega
  | ⟨2, _⟩ => show 0 + 1 * (j 2).val = (j 2).val; omega

theorem load_weight (off : Fin 4 → ℕ) (inb) (k : ℕ) (hk : k < 64) (ch : Fin 2) (e : off = ![k, ch.val, 0, 0]) :
    arg2.view.readAt (Elt F) (Rect.unit (s := S64x2x125x128) off S1x1x125x128.size inb).toLoadRect X2
      = fun j => arg2.view.read (Elt F) X2 (ix4 ⟨k, hk⟩ ch (j 2) (j 3)) := by
  funext j
  rw [View.readAt_apply]
  congr 1
  funext a; apply Fin.ext
  refine (congrArg (· + 1 * (j a).val) (congrFun e a)).trans ?_
  have hj : (j 0).val < 1 := (j 0).isLt
  have hj1 : (j 1).val < 1 := (j 1).isLt
  match a with
  | ⟨0, _⟩ => show k + 1 * (j 0).val = k; omega
  | ⟨1, _⟩ => show ch.val + 1 * (j 1).val = ch.val; omega
  | ⟨2, _⟩ => show 0 + 1 * (j 2).val = (j 2).val; omega
  | ⟨3, _⟩ => show 0 + 1 * (j 3).val = (j 3).val; omega

end Trip

set_option warn.classDefReducibility false in
/-- The loop over the bands by its invariant: one trip, at a symbolic band, keeps it. -/
@[sl_loop] def prepLoop (𝒱 : Variants) (c : Dev nD) (bd : Option 𝒱.V) (E : Set ℕ) (i : grid0.Coords)
    (arg1 : Memref sig .tc .smem S64 .i32) (harg1 : arg1.IsWhole) (arg2 : Memref sig .tc .vmem S64x2x125x128 .f32) (harg2 : arg2.IsWhole)
    (arg3 : Memref sig .tc .vmem S64x1x125 .f32) (harg3 : arg3.IsWhole) (arg4 : Memref sig .tc .vmem S64x2x256x128 .bf16) (harg4 : arg4.IsWhole)
    (X1 : BufTy.Contents (Elt F) arg1.view.ty) (X2 : BufTy.Contents (Elt F) arg2.view.ty) (X3 : BufTy.Contents (Elt F) arg3.view.ty) :
    Idealize.ShloMosaic.LoopInv (M := 𝕄) Idealize.ShloMosaic.frame (wpE defs₀ 𝒱 (c : Thread nD τ) bd) E
      k0_t1_loop.lb k0_t1_loop.ub k0_t1_loop.st k0_t1_ok () (k0_t1_body (F := F) i arg1 harg1 arg2 harg2 arg3 harg3 arg4 harg4) where
  inv := inv c arg1 arg2 arg3 arg4 X1 X2 X3
  step k acc := by
    have hk : k.val < 64 := Nat.lt_of_lt_of_le k.isLt k0_t1_abs.2.1
    unfold k0_t1_body
    iintro ⟨H1, H2, H3, ⟨%f, H4, %hf⟩⟩
    sl_exec
    sl_step
    isplitl [H1]; · iexact H1
    isplitl [H2]; · iexact H2
    isplitl [H3]; · iexact H3
    iexists _; isplitl [H4]; · iexact H4
    ipureintro
    refine read_trip arg4 f k _ _ _ hk hf (fun r o => ?_) (fun r o => ?_)
    · have hs : prepLoop.sl.r arg1 X1 k = arg1.view.read (Elt F) X1 (ValueIdx.ix1 ⟨k.val, hk⟩) := load_start arg1 X1 k hk _
      rw [hs, load_mask arg3 X3 k hk, load_weight arg2 X2 (k0_off3 k) _ k.val hk 0 (k0_off3_eq k)]
      rfl
    · have hs : prepLoop.sl.r arg1 X1 k = arg1.view.read (Elt F) X1 (ValueIdx.ix1 ⟨k.val, hk⟩) := load_start arg1 X1 k hk _
      show k0_pay4 k0_pay1 (prepLoop.sl.r arg1 X1 k) (arg3.view.readAt (Elt F) (Rect.unit (s := S64x1x125) (k0_off2 k) S1x1x125.size (k0_off2_inb k)).toLoadRect X3)
        (arg2.view.readAt (Elt F) (Rect.unit (s := S64x2x125x128) (k0_off5 k) S1x1x125x128.size (k0_off5_inb k)).toLoadRect X2) _ = _
      rw [hs, load_mask arg3 X3 k hk, load_weight arg2 X2 (k0_off5 k) _ k.val hk 1 (k0_off5_eq k)]
      rfl

/-- The whole of the first kernel: from the start bins, the weights and the masks it prepares every band's weights. -/
theorem run_prep (𝒱 : Variants) (c : Dev nD) (bd : Option 𝒱.V) (E : Set ℕ) (i : grid0.Coords)
    (arg1 : Memref sig .tc .smem S64 .i32) (harg1 : arg1.IsWhole) (arg2 : Memref sig .tc .vmem S64x2x125x128 .f32) (harg2 : arg2.IsWhole)
    (arg3 : Memref sig .tc .vmem S64x1x125 .f32) (harg3 : arg3.IsWhole) (arg4 : Memref sig .tc .vmem S64x2x256x128 .bf16) (harg4 : arg4.IsWhole)
    (st : S64.Idx → Elt F .i32) (w : S64x2x125x128.Idx → Elt F .f32) (mk : S64x1x125.Idx → Elt F .f32)
    (d4 : S64x2x256x128.Idx → Elt F .bf16) (Q : PUnit → sProp 𝕄) :
    iprop(owns (c : Thread nD τ) arg1 fullShare st ∗ owns (c : Thread nD τ) arg2 fullShare w ∗ owns (c : Thread nD τ) arg3 fullShare mk
      ∗ owns (c : Thread nD τ) arg4 fullShare d4
      ∗ (iprop(owns (c : Thread nD τ) arg1 fullShare st ∗ owns (c : Thread nD τ) arg2 fullShare w ∗ owns (c : Thread nD τ) arg3 fullShare mk
          ∗ owns (c : Thread nD τ) arg4 fullShare (slab st w mk)) -∗ Q ⟨⟩))
      ⊢ wp frame (wpE (defs₀ (F := F)) 𝒱 (c : Thread nD τ) bd) E (cc0__prep_kernel (F := F) i arg1 harg1 arg2 harg2 arg3 harg3 arg4 harg4) Q := by
  unfold owns
  iintro ⟨⟨%X1, %e1, H1⟩, ⟨%X2, %e2, H2⟩, ⟨%X3, %e3, H3⟩, ⟨%f4, -, H4⟩, Hk⟩
  subst e1 e2 e3
  sl_exec!
  sl_step
  iapply Hk
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  iexists _; isplitr; swap; (· iexact H4)
  ipureintro
  funext y
  refine hL4 y (Nat.lt_of_lt_of_le (show (y 0).val < 64 from (y 0).isLt) ?_)
  decide +kernel

end Cert.KernelIdeal.Prep

end
-- ==== Proof.Ideal.PrepRegion.lean ====
module

public import proofs.«01_k».proof.Proof.Gen.KernelIdeal.Regions
public import proofs.«01_k».proof.Proof.Ideal.PrepRun
public import Idealize.ShloMosaic.Lib.Pipeline.RegionArraysTS
public import Idealize.ShloMosaic.Lib.Pipeline.FrameBody

/-!
# The first call's region

The first call has one grid point. Its proof data say what each window holds there, and its body runs from them.
-/

@[expose] public section

set_option maxRecDepth 16384

noncomputable section

namespace Cert.KernelIdeal.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)
open Cert.KernelIdeal Cert.KernelIdeal.Gen

variable {F : FTy → Type} [FloatOps F]

local notation "𝕄" => MT nD τ sig Unit (Elt F) ℕ (UR sig nD τ) ℕ

variable (a : (p : Fin 2) → (pcfgs (F := F) p).Adm) (W : Dev nD → Valuation τ sig (Elt F))

/-- The start bins, as the table of both kernels. -/
abbrev words (T : pre0.Contents (Elt F)) : S64.Idx → Elt F .i32 := T 0

/-- The table held whole is the kernel's first operand owned at its words. -/
theorem table_eq (c : Dev nD) (T : pre0.Contents (Elt F)) :
    (Pipeline.prefHeld pre0 c (fun _ => fullShare) T : sProp 𝕄) = owns (c : Thread nD τ) (Memref.whole main_v1) fullShare (words T) := by
  unfold Pipeline.prefHeld
  rw [show (Finset.univ : Finset (Fin 1)) = {0} from rfl, BI.bigSep_singleton, owns_whole_eq]
  have h1 : ((c : Thread nD τ).loc main_v1 ↦{fullShare} words T : sProp 𝕄)
      ⊢ iprop(∃ f, ⌜f = words T⌝ ∗ (c : Thread nD τ).loc main_v1 ↦{fullShare} f) := by
    iintro H
    iexists _; isplitr; swap; (· iexact H); ipureintro; rfl
  have h2 : (iprop(∃ f, ⌜f = words T⌝ ∗ (c : Thread nD τ).loc main_v1 ↦{fullShare} f) : sProp 𝕄)
      ⊢ ((c : Thread nD τ).loc main_v1 ↦{fullShare} words T) := by
    iintro ⟨%f, %e, H⟩
    subst e
    iexact H
  exact equiv_iff.mp ⟨h1, h2⟩

/-- Equal resources may be exchanged. -/
theorem swap_eq {P Q : sProp 𝕄} (h : P = Q) : P ⊢ Q := h ▸ BIBase.Entails.rfl

/-- What a window's block holds at its one grid point. -/
abbrev blk (c : Dev nD) (w : Fin 3) : ((Pipeline.pin (pcfgs (F := F)) a 0).win w).block.Idx → Elt F ((Pipeline.pin (pcfgs (F := F)) a 0).win w).elt :=
  (((Pipeline.pin (pcfgs (F := F)) a 0).win w).blk t0_0).view.read (Elt F) (W c (Proc.devRef .tc (Pipeline.arrRef spec0 w)))

/-- What the first region keeps beside its windows: the other scoped buffers, and its table. -/
abbrev kept (c : Dev nD) : sProp 𝕄 :=
  iprop(Pipeline.scopedRest (Ix := Unit) (Name := ℕ) (U := UR sig nD τ) (Lvl := ℕ) (Val := Elt F) spec0 c
    ∗ Pipeline.prefHeld pre0 c (fun _ => fullShare) (a 0).1)

/-- The first region's proof data: its inputs as fetched, its output the prepared weights. -/
def dat (c : Dev nD) : Dat τ (Elt F) Unit ℕ (UR sig nD τ) ℕ (Pipeline.pin (pcfgs (F := F)) a 0) c where
  A w := W c (Proc.devRef .tc (Pipeline.arrRef spec0 w))
  after w t := match w with
    | ⟨0, _⟩ => (((Pipeline.pin (pcfgs (F := F)) a 0).win 0).blk t).view.read (Elt F) (W c (Proc.devRef .tc (Pipeline.arrRef spec0 0)))
    | ⟨1, _⟩ => (((Pipeline.pin (pcfgs (F := F)) a 0).win 1).blk t).view.read (Elt F) (W c (Proc.devRef .tc (Pipeline.arrRef spec0 1)))
    | ⟨2, _⟩ => slab (words (a 0).1) (blk a W c 0) (blk a W c 1)
  Φ _ := kept a c
  q _ := fullShare
  owed _ := 0

theorem before_0 (c : Dev nD) (d) : (dat a W c).before (0 : Fin 3) t0_0 d = blk a W c 0 :=
  ((dat a W c).before_in_eq_fetched 0 rfl (fun _ => rfl) (fun _ _ _ => rfl) (fun _ => rfl) t0_0 d).trans rfl
theorem before_1 (c : Dev nD) (d) : (dat a W c).before (1 : Fin 3) t0_0 d = blk a W c 1 :=
  ((dat a W c).before_in_eq_fetched 1 rfl (fun _ => rfl) (fun _ _ _ => rfl) (fun _ => rfl) t0_0 d).trans rfl

/-- The first region's body at its one grid point, over any staging buffers. -/
theorem body_run (c : Dev nD) (P : sProp 𝕄) (M0 : Memref sig .tc .vmem S64x2x125x128 .f32) (h0 : M0.IsWhole)
    (M1 : Memref sig .tc .vmem S64x1x125 .f32) (h1 : M1.IsWhole) (M2 : Memref sig .tc .vmem S64x2x256x128 .bf16) (h2 : M2.IsWhole)
    (x0 : S64x2x125x128.Idx → Elt F .f32) (x1 : S64x1x125.Idx → Elt F .f32) :
    iprop((Pipeline.scopedRest (Ix := Unit) (Name := ℕ) (U := UR sig nD τ) (Lvl := ℕ) (Val := Elt F) spec0 c
        ∗ Pipeline.prefHeld pre0 c (fun _ => fullShare) (a 0).1) ∗ P
      ∗ owns (c : Thread nD τ) M0 fullShare x0 ∗ owns (c : Thread nD τ) M1 fullShare x1
      ∗ (∃ d2, owns (c : Thread nD τ) M2 fullShare d2))
    ⊢ wp frame (wpE (defs₀ (F := F)) Variants.none (c : Thread nD τ) none) Set.univ
        (cc0__prep_kernel (F := F) (grid0.coords t0_0) (Memref.whole main_v1) (Memref.isWhole_whole _) M0 h0 M1 h1 M2 h2) fun _ =>
      iprop((Pipeline.scopedRest (Ix := Unit) (Name := ℕ) (U := UR sig nD τ) (Lvl := ℕ) (Val := Elt F) spec0 c
          ∗ Pipeline.prefHeld pre0 c (fun _ => fullShare) (a 0).1) ∗ P
        ∗ owns (c : Thread nD τ) M0 fullShare x0 ∗ owns (c : Thread nD τ) M1 fullShare x1
        ∗ owns (c : Thread nD τ) M2 fullShare (slab (words (a 0).1) x0 x1)) := by
  rw [table_eq]
  iintro ⟨⟨Hs, Ht⟩, Howes, H0, H1, ⟨%d2, H2⟩⟩
  iapply (run_prep Variants.none c none Set.univ (grid0.coords t0_0) (Memref.whole main_v1) (Memref.isWhole_whole _)
    M0 h0 M1 h1 M2 h2 (words (a 0).1) x0 x1 d2)
  isplitl [Ht]; · iexact Ht
  isplitl [H0]; · iexact H0
  isplitl [H1]; · iexact H1
  isplitl [H2]; · iexact H2
  iintro ⟨Ht, H0, H1, H2⟩
  isplitl [Hs Ht]
  · isplitl [Hs]; · iexact Hs
    iexact Ht
  isplitl [Howes]; · iexact Howes
  isplitl [H0]; · iexact H0
  isplitl [H1]; · iexact H1
  iexact H2

set_option backward.isDefEq.respectTransparency.types false in
/-- The first region's body at its one grid point. -/
theorem body (c : Dev nD) : BodyObligation (dat a W c) (defs₀ (F := F)) Variants.none () Set.univ := fun t => by
  obtain rfl := fin_N0 t
  rw [bigSep_W0, bigSep_W0]
  rw [show (dat a W c).Φ t0_0.castSucc = kept a c from rfl, show (dat a W c).Φ t0_0.succ = kept a c from rfl,
    show (dat a W c).owesAt () t0_0.succ = (dat a W c).owesAt () t0_0.castSucc from rfl]
  have key := body_run a c ((dat a W c).owesAt () t0_0.castSucc)
    (((Pipeline.pin (pcfgs (F := F)) a 0).win (0 : Fin 3)).stage ((Pipeline.pin (pcfgs (F := F)) a 0).slots t0_0 (0 : Fin 3))) (stage_whole0 0 _)
    (((Pipeline.pin (pcfgs (F := F)) a 0).win (1 : Fin 3)).stage ((Pipeline.pin (pcfgs (F := F)) a 0).slots t0_0 (1 : Fin 3))) (stage_whole0 1 _)
    (((Pipeline.pin (pcfgs (F := F)) a 0).win 2).stage ((Pipeline.pin (pcfgs (F := F)) a 0).slots t0_0 2)) (stage_whole0 2 _)
    (blk a W c 0) (blk a W c 1)
  have e1 : (defs₀ (F := F)) Proc.tc (Pipeline.pin pcfgs a 0).body
          ((Pipeline.pin pcfgs a 0).bodyArgs t0_0 ((Pipeline.pin pcfgs a 0).slots t0_0)) =
        (cc0__prep_kernel (F := F) (grid0.coords t0_0) (Memref.whole main_v1) (Memref.isWhole_whole _)
    (((Pipeline.pin (pcfgs (F := F)) a 0).win (0 : Fin 3)).stage ((Pipeline.pin (pcfgs (F := F)) a 0).slots t0_0 (0 : Fin 3))) (stage_whole0 0 _)
    (((Pipeline.pin (pcfgs (F := F)) a 0).win (1 : Fin 3)).stage ((Pipeline.pin (pcfgs (F := F)) a 0).slots t0_0 (1 : Fin 3))) (stage_whole0 1 _)
    (((Pipeline.pin (pcfgs (F := F)) a 0).win 2).stage ((Pipeline.pin (pcfgs (F := F)) a 0).slots t0_0 2)) (stage_whole0 2 _)) := rfl
  rw [e1]
  iintro ⟨HΦ, Howes, ⟨%d0, H0⟩, ⟨%d1, H1⟩, ⟨%d2, H2⟩⟩
  ihave H0 := (swap_eq (congrArg (owns (Ix := Unit) (Name := ℕ) (U := UR sig nD τ) (Lvl := ℕ) (c : Thread nD τ)
    (((Pipeline.pin (pcfgs (F := F)) a 0).win (0 : Fin 3)).stage ((Pipeline.pin (pcfgs (F := F)) a 0).slots t0_0 (0 : Fin 3))) fullShare) (before_0 a W c d0))) $$ H0
  ihave H1 := (swap_eq (congrArg (owns (Ix := Unit) (Name := ℕ) (U := UR sig nD τ) (Lvl := ℕ) (c : Thread nD τ)
    (((Pipeline.pin (pcfgs (F := F)) a 0).win (1 : Fin 3)).stage ((Pipeline.pin (pcfgs (F := F)) a 0).slots t0_0 (1 : Fin 3))) fullShare) (before_1 a W c d1))) $$ H1
  iapply key
  isplitl [HΦ]; · iexact HΦ
  isplitl [Howes]; · iexact Howes
  isplitl [H0]; · iexact H0
  isplitl [H1]; · iexact H1
  iexists _; iexact H2

end Cert.KernelIdeal.Prep

end
-- ==== Proof.Ideal.BandRegion.lean ====
module

public import proofs.«01_k».proof.Proof.Gen.KernelIdeal.Regions
public import proofs.«01_k».proof.Proof.Ideal.BandRun
public import proofs.«01_k».proof.Proof.Ideal.PrepRegion
public import Idealize.ShloMosaic.Lib.Pipeline.RegionArraysTS
public import Idealize.ShloMosaic.Lib.Pipeline.FrameBody
public import Idealize.ShloMosaic.Lib.Pipeline.ValueKit

/-!
# The second call's region

The second call has a grid point per band. Its proof data say what each window holds at a point, and that the scratch
holds the widened input after the first one; its body runs from them at every point.
-/

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)
open Cert.KernelIdeal Cert.KernelIdeal.Gen
open Cert.KernelIdeal.Prep (swap_eq)

variable {F : FTy → Type} [FloatOps F]

local notation "𝕄" => MT nD τ sig Unit (Elt F) ℕ (UR sig nD τ) ℕ

variable (a : (p : Fin 2) → (pcfgs (F := F) p).Adm) (W : Dev nD → Valuation τ sig (Elt F))

/-- The start bins, as the second call's table. -/
abbrev words (T : pre1.Contents (Elt F)) : S64.Idx → Elt F .i32 := T 0

/-- The second call's table held whole is the kernel's first operand owned at its words. -/
theorem table_eq (c : Dev nD) (T : pre1.Contents (Elt F)) :
    (Pipeline.prefHeld pre1 c (fun _ => fullShare) T : sProp 𝕄) = owns (c : Thread nD τ) (Memref.whole main_v1) fullShare (words T) :=
  Prep.table_eq c T

/-- A buffer held at something, for the ones that the second call does not touch. -/
abbrev loose (c : Dev nD) (b : Ref sig .tc) : sProp 𝕄 :=
  iprop(∃ f : Buf (Elt F) ((c : Thread nD τ).loc b), ((c : Thread nD τ).loc b) ↦{fullShare} f)

/-- The scratch after `n` points: at anything before the first, then the widened input. -/
def scr (c : Dev nD) (x : S4x2x512x1025.Idx → Elt F .f32) : ℕ → sProp 𝕄
  | 0 => loose c cc1_scratch0
  | _ + 1 => owns (c : Thread nD τ) (Memref.whole cc1_scratch0) fullShare (pad x)

/-- What the second region keeps beside its windows: the first call's buffers, its table, its scratch. -/
abbrev kept (c : Dev nD) (x : S4x2x512x1025.Idx → Elt F .f32) (n : ℕ) : sProp 𝕄 :=
  iprop((loose c cc0_stg0_0 ∗ loose c cc0_stg1_0 ∗ loose c cc0_stg2_0) ∗ Pipeline.prefHeld pre1 c (fun _ => fullShare) (a 1).1 ∗ scr c x n)

/-- The scratch after a point. -/
theorem scr_succ (c : Dev nD) (x : S4x2x512x1025.Idx → Elt F .f32) (n : ℕ) :
    scr c x (n + 1) = owns (c : Thread nD τ) (Memref.whole cc1_scratch0) fullShare (pad x) := rfl

/-- The scratch held at anything is owned at something. -/
theorem scr_zero (c : Dev nD) (x : S4x2x512x1025.Idx → Elt F .f32) :
    scr c x 0 ⊢ iprop(∃ d, owns (c : Thread nD τ) (Memref.whole cc1_scratch0) fullShare d) := by
  simp only [owns_whole_eq]
  unfold scr
  iintro ⟨%f, H⟩
  iexists f; iexists f
  isplitr; swap; (· iexact H); ipureintro; rfl

/-- At any point the scratch is a buffer held at something. -/
theorem scr_loose (c : Dev nD) (x : S4x2x512x1025.Idx → Elt F .f32) (n : ℕ) : scr c x n ⊢ loose c cc1_scratch0 := by
  match n with
  | 0 => exact BIBase.Entails.rfl
  | n + 1 =>
    unfold scr
    simp only [owns_whole_eq]
    iintro ⟨%f, %e, H⟩
    iexists f; iexact H

/-- The second region's body at a grid point, over any staging buffers. -/
theorem body_run (c : Dev nD) (P : sProp 𝕄) (i : grid1.Coords) (n : ℕ) (hfst : first i ↔ n = 0) (s : Fin 64) (hs : s.val = (i 0).val)
    (hst : k1_chk1 (words (a 1).1 (ValueIdx.ix1 s)))
    (M0 : Memref sig .tc .vmem S4x2x512x1025 .f32) (h0 : M0.IsWhole)
    (M1 : Memref sig .tc .vmem S64x2x256x128 .bf16) (h1 : M1.IsWhole) (M2 : Memref sig .tc .vmem S64x1x128 .f32) (h2 : M2.IsWhole)
    (M3 : Memref sig .tc .vmem S1x4x512x128 .f32) (h3 : M3.IsWhole)
    (x : S4x2x512x1025.Idx → Elt F .f32) (V : S64x2x256x128.Idx → Elt F .bf16) (B : S64x1x128.Idx → Elt F .f32) :
    iprop(kept a c x n ∗ P
      ∗ owns (c : Thread nD τ) M0 fullShare x ∗ owns (c : Thread nD τ) M1 fullShare V ∗ owns (c : Thread nD τ) M2 fullShare B
      ∗ (∃ d, owns (c : Thread nD τ) M3 fullShare d))
    ⊢ wp frame (wpE (defs₀ (F := F)) Variants.none (c : Thread nD τ) none) Set.univ
        (cc1__band_kernel (F := F) i (Memref.whole main_v1) (Memref.isWhole_whole _) M0 h0 M1 h1 M2 h2 M3 h3 (Memref.whole cc1_scratch0) (Memref.isWhole_whole _)) fun _ =>
      iprop(kept a c x (n + 1) ∗ P
        ∗ owns (c : Thread nD τ) M0 fullShare x ∗ owns (c : Thread nD τ) M1 fullShare V ∗ owns (c : Thread nD τ) M2 fullShare B
        ∗ owns (c : Thread nD τ) M3 fullShare (bandOut (words (a 1).1 (ValueIdx.ix1 s)) s (pad x) V B)) := by
  dsimp only [kept]
  rw [table_eq]
  match n with
  | 0 =>
    rw [scr_succ]
    iintro ⟨⟨Hl, Ht, Hs⟩, Howes, H0, H1, H2, ⟨%d3, H3⟩⟩
    ihave Hs := (scr_zero c x) $$ Hs
    icases Hs with ⟨%d6, Hs⟩
    iapply (run_first Variants.none c none i (Memref.whole main_v1) (Memref.isWhole_whole _) M0 h0 M1 h1 M2 h2 M3 h3
      (Memref.whole cc1_scratch0) (Memref.isWhole_whole _) (hfst.2 rfl) s hs (words (a 1).1) hst x V B d3 d6 Set.univ)
    isplitl [Ht]; · iexact Ht
    isplitl [H0]; · iexact H0
    isplitl [H1]; · iexact H1
    isplitl [H2]; · iexact H2
    isplitl [H3]; · iexact H3
    isplitl [Hs]; · iexact Hs
    iintro ⟨Ht, H0, H1, H2, H3, Hs⟩
    isplitl [Hl Ht Hs]
    · isplitl [Hl]; · iexact Hl
      isplitl [Ht]; · iexact Ht
      iexact Hs
    isplitl [Howes]; · iexact Howes
    isplitl [H0]; · iexact H0
    isplitl [H1]; · iexact H1
    isplitl [H2]; · iexact H2
    iexact H3
  | n + 1 =>
    rw [scr_succ, scr_succ]
    iintro ⟨⟨Hl, Ht, Hs⟩, Howes, H0, H1, H2, ⟨%d3, H3⟩⟩
    iapply (run_later Variants.none c none i (Memref.whole main_v1) (Memref.isWhole_whole _) M0 h0 M1 h1 M2 h2 M3 h3
      (Memref.whole cc1_scratch0) (Memref.isWhole_whole _) (fun h => absurd (hfst.1 h) (Nat.succ_ne_zero n)) s hs (words (a 1).1) hst x V B d3 Set.univ)
    isplitl [Ht]; · iexact Ht
    isplitl [H0]; · iexact H0
    isplitl [H1]; · iexact H1
    isplitl [H2]; · iexact H2
    isplitl [H3]; · iexact H3
    isplitl [Hs]; · iexact Hs
    iintro ⟨Ht, H0, H1, H2, H3, Hs⟩
    isplitl [Hl Ht Hs]
    · isplitl [Hl]; · iexact Hl
      isplitl [Ht]; · iexact Ht
      iexact Hs
    isplitl [Howes]; · iexact Howes
    isplitl [H0]; · iexact H0
    isplitl [H1]; · iexact H1
    isplitl [H2]; · iexact H2
    iexact H3

/-- The input, the prepared weights and the bias as the second region's windows fetch them, whole. -/
abbrev blk (c : Dev nD) (w : Fin 4) (t : Fin grid1.N) : ((Pipeline.pin (pcfgs (F := F)) a 1).win w).block.Idx → Elt F ((Pipeline.pin (pcfgs (F := F)) a 1).win w).elt :=
  (((Pipeline.pin (pcfgs (F := F)) a 1).win w).blk t).view.read (Elt F) (W c (Proc.devRef .tc (Pipeline.arrRef spec1 w)))

/-- The whole input array, as a function of its four indices. -/
abbrev xIn (c : Dev nD) : S4x2x512x1025.Idx → Elt F .f32 := W c (Proc.devRef .tc main_arg0)
/-- The prepared weights. -/
abbrev wIn (c : Dev nD) : S64x2x256x128.Idx → Elt F .bf16 := W c (Proc.devRef .tc main_v4)
/-- The bias. -/
abbrev bIn (c : Dev nD) : S64x1x128.Idx → Elt F .f32 := W c (Proc.devRef .tc main_v3)

/-- The filter that a grid point works on. -/
abbrev strip (t : Fin grid1.N) : Fin 64 := t.cast N_1

/-- The second region's proof data: its inputs as fetched, its output the strip of the point, its scratch as it fills. -/
def dat (c : Dev nD) : Dat τ (Elt F) Unit ℕ (UR sig nD τ) ℕ (Pipeline.pin (pcfgs (F := F)) a 1) c where
  A w := W c (Proc.devRef .tc (Pipeline.arrRef spec1 w))
  after w t := match w with
    | ⟨0, _⟩ => blk a W c 0 t
    | ⟨1, _⟩ => blk a W c 1 t
    | ⟨2, _⟩ => blk a W c 2 t
    | ⟨3, _⟩ => bandOut (words (a 1).1 (ValueIdx.ix1 (strip t))) (strip t) (pad (xIn W c)) (wIn W c) (bIn W c)
  Φ t := kept a c (xIn W c) t.val
  q _ := fullShare
  owed _ := 0

theorem blk_0 (c : Dev nD) (t) : blk a W c (0 : Fin 4) t = xIn W c := by
  funext y
  refine congrArg (W c _) (funext fun b => Fin.ext ?_)
  blk_simp
  have hz : ∀ b, ((Pipeline.pin (pcfgs (F := F)) a 1).win (0 : Fin 4)).index t b = 0 := by intro b; fin_cases b <;> rfl
  exact (congrArg (· * _ + _) (hz b)).trans (by rw [Nat.zero_mul, Nat.zero_add])
theorem before_0 (c : Dev nD) (t) (d) : (dat a W c).before (0 : Fin 4) t d = xIn W c :=
  (((dat a W c).before_in_eq_fetched (0 : Fin 4) rfl (fun _ => rfl) (fun _ _ _ => rfl) (fun _ => rfl) t d).trans rfl).trans (blk_0 a W c t)
theorem blk_1 (c : Dev nD) (t) : blk a W c (1 : Fin 4) t = wIn W c := by
  funext y
  refine congrArg (W c _) (funext fun b => Fin.ext ?_)
  blk_simp
  have hz : ∀ b, ((Pipeline.pin (pcfgs (F := F)) a 1).win (1 : Fin 4)).index t b = 0 := by intro b; fin_cases b <;> rfl
  exact (congrArg (· * _ + _) (hz b)).trans (by rw [Nat.zero_mul, Nat.zero_add])
theorem before_1 (c : Dev nD) (t) (d) : (dat a W c).before (1 : Fin 4) t d = wIn W c :=
  (((dat a W c).before_in_eq_fetched (1 : Fin 4) rfl (fun _ => rfl) (fun _ _ _ => rfl) (fun _ => rfl) t d).trans rfl).trans (blk_1 a W c t)
theorem blk_2 (c : Dev nD) (t) : blk a W c (2 : Fin 4) t = bIn W c := by
  funext y
  refine congrArg (W c _) (funext fun b => Fin.ext ?_)
  blk_simp
  have hz : ∀ b, ((Pipeline.pin (pcfgs (F := F)) a 1).win (2 : Fin 4)).index t b = 0 := by intro b; fin_cases b <;> rfl
  exact (congrArg (· * _ + _) (hz b)).trans (by rw [Nat.zero_mul, Nat.zero_add])
theorem before_2 (c : Dev nD) (t) (d) : (dat a W c).before (2 : Fin 4) t d = bIn W c :=
  (((dat a W c).before_in_eq_fetched (2 : Fin 4) rfl (fun _ => rfl) (fun _ _ _ => rfl) (fun _ => rfl) t d).trans rfl).trans (blk_2 a W c t)

/-- The first grid point is the one whose test holds. -/
theorem first_iff : ∀ t : Fin grid1.N, first (grid1.coords t) ↔ t.val = 0 := by decide +kernel
/-- A grid point's only coordinate is its number. -/
theorem coord_eq : ∀ t : Fin grid1.N, (strip t).val = (grid1.coords t 0).val := by decide +kernel

set_option backward.isDefEq.respectTransparency.types false in
/-- The second region's body at every grid point, if every start bin is one that the kernel checks. -/
theorem body (hchk : ∀ s : Fin 64, k1_chk1 (words (a 1).1 (ValueIdx.ix1 s))) (c : Dev nD) :
    BodyObligation (dat a W c) (defs₀ (F := F)) Variants.none () Set.univ := fun t => by
  rw [bigSep_W1, bigSep_W1]
  rw [show (dat a W c).Φ t.castSucc = kept a c (xIn W c) t.val from rfl, show (dat a W c).Φ t.succ = kept a c (xIn W c) (t.val + 1) from rfl,
    show (dat a W c).owesAt () t.succ = (dat a W c).owesAt () t.castSucc from rfl]
  have key := body_run a c ((dat a W c).owesAt () t.castSucc) (grid1.coords t) t.val (first_iff t) (strip t) (coord_eq t) (hchk _)
    (((Pipeline.pin (pcfgs (F := F)) a 1).win (0 : Fin 4)).stage ((Pipeline.pin (pcfgs (F := F)) a 1).slots t (0 : Fin 4))) (stage_whole1 0 _)
    (((Pipeline.pin (pcfgs (F := F)) a 1).win (1 : Fin 4)).stage ((Pipeline.pin (pcfgs (F := F)) a 1).slots t (1 : Fin 4))) (stage_whole1 1 _)
    (((Pipeline.pin (pcfgs (F := F)) a 1).win (2 : Fin 4)).stage ((Pipeline.pin (pcfgs (F := F)) a 1).slots t (2 : Fin 4))) (stage_whole1 2 _)
    (((Pipeline.pin (pcfgs (F := F)) a 1).win (3 : Fin 4)).stage ((Pipeline.pin (pcfgs (F := F)) a 1).slots t (3 : Fin 4))) (stage_whole1 3 _)
    (xIn W c) (wIn W c) (bIn W c)
  have e1 : (defs₀ (F := F)) Proc.tc (Pipeline.pin pcfgs a 1).body
          ((Pipeline.pin pcfgs a 1).bodyArgs t ((Pipeline.pin pcfgs a 1).slots t)) =
        (cc1__band_kernel (F := F) (grid1.coords t) (Memref.whole main_v1) (Memref.isWhole_whole _)
    (((Pipeline.pin (pcfgs (F := F)) a 1).win (0 : Fin 4)).stage ((Pipeline.pin (pcfgs (F := F)) a 1).slots t (0 : Fin 4))) (stage_whole1 0 _)
    (((Pipeline.pin (pcfgs (F := F)) a 1).win (1 : Fin 4)).stage ((Pipeline.pin (pcfgs (F := F)) a 1).slots t (1 : Fin 4))) (stage_whole1 1 _)
    (((Pipeline.pin (pcfgs (F := F)) a 1).win (2 : Fin 4)).stage ((Pipeline.pin (pcfgs (F := F)) a 1).slots t (2 : Fin 4))) (stage_whole1 2 _)
    (((Pipeline.pin (pcfgs (F := F)) a 1).win (3 : Fin 4)).stage ((Pipeline.pin (pcfgs (F := F)) a 1).slots t (3 : Fin 4))) (stage_whole1 3 _) (Memref.whole cc1_scratch0) (Memref.isWhole_whole _)) := rfl
  rw [e1]
  iintro ⟨HΦ, Howes, ⟨%d0, H0⟩, ⟨%d1, H1⟩, ⟨%d2, H2⟩, ⟨%d3, H3⟩⟩
  ihave H0 := (swap_eq (congrArg (owns (Ix := Unit) (Name := ℕ) (U := UR sig nD τ) (Lvl := ℕ) (c : Thread nD τ)
    (((Pipeline.pin (pcfgs (F := F)) a 1).win (0 : Fin 4)).stage ((Pipeline.pin (pcfgs (F := F)) a 1).slots t (0 : Fin 4))) fullShare) (before_0 a W c t d0))) $$ H0
  ihave H1 := (swap_eq (congrArg (owns (Ix := Unit) (Name := ℕ) (U := UR sig nD τ) (Lvl := ℕ) (c : Thread nD τ)
    (((Pipeline.pin (pcfgs (F := F)) a 1).win (1 : Fin 4)).stage ((Pipeline.pin (pcfgs (F := F)) a 1).slots t (1 : Fin 4))) fullShare) (before_1 a W c t d1))) $$ H1
  ihave H2 := (swap_eq (congrArg (owns (Ix := Unit) (Name := ℕ) (U := UR sig nD τ) (Lvl := ℕ) (c : Thread nD τ)
    (((Pipeline.pin (pcfgs (F := F)) a 1).win (2 : Fin 4)).stage ((Pipeline.pin (pcfgs (F := F)) a 1).slots t (2 : Fin 4))) fullShare) (before_2 a W c t d2))) $$ H2
  rw [show (dat a W c).after (0 : Fin 4) t = xIn W c from blk_0 a W c t, show (dat a W c).after (1 : Fin 4) t = wIn W c from blk_1 a W c t,
    show (dat a W c).after (2 : Fin 4) t = bIn W c from blk_2 a W c t]
  iapply key
  isplitl [HΦ]; · iexact HΦ
  isplitl [Howes]; · iexact Howes
  isplitl [H0]; · iexact H0
  isplitl [H1]; · iexact H1
  isplitl [H2]; · iexact H2
  iexists _; iexact H3

end Cert.KernelIdeal.Band

end
-- ==== Proof.Ideal.Segments.lean ====
module

public import proofs.«01_k».proof.Proof.Gen.KernelIdeal.Regions
public import proofs.«01_k».proof.Proof.Ideal.BandRegion
public import proofs.«01_k».proof.Proof.Ideal.PrepRegion
public import Idealize.ShloMosaic.Lib.Pipeline.RegionArraysTS
public import Idealize.ShloMosaic.Lib.Pipeline.FrameBody

/-!
# The two calls as parts of the program

How memory passes from the host part into the first call, from there into the second call, and on to the last
transposition.
-/

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg RegionSeg)
open Cert.KernelIdeal Cert.KernelIdeal.Gen
open Cert.KernelIdeal.Prep (swap_eq)

variable {F : FTy → Type} [FloatOps F]

local notation "𝕄" => MT nD τ sig Unit (Elt F) ℕ (UR sig nD τ) ℕ

open Idealize.ShloMosaic.Rounds

variable (m : (ℓ : Loc nD τ sig) → Buf (Elt F) ℓ)

/-- The start bins in memory when the first call begins: the table of both calls. -/
abbrev starts : S64.Idx → Elt F .i32 := V1 m 0 main_v1

/-- Both calls' tables. -/
def tabs : (p : Fin 2) → (pcfgs (F := F) p).Adm
  | ⟨0, _⟩ => ⟨fun | ⟨0, _⟩ => starts m, trivial⟩
  | ⟨1, _⟩ => ⟨fun | ⟨0, _⟩ => starts m, trivial⟩

/-- Memory between the two calls. -/
abbrev mid (c : Dev nD) : Valuation τ sig (Elt F) :=
  Function.update (V1 m c) main_v4 (Pipeline.afterRegion (Prep.dat (tabs m) (V1 m) c) (V1 m c) (Proc.devRef .tc main_v4))

/-- Both calls' proof data. -/
def pdats : (p : Fin 2) → (c : Dev nD) → Dat τ (Elt F) Unit ℕ (UR sig nD τ) ℕ (Pipeline.pin (pcfgs (F := F)) (tabs m) p) c
  | ⟨0, _⟩ => fun c => Prep.dat (tabs m) (V1 m) c
  | ⟨1, _⟩ => fun c => Band.dat (tabs m) (mid m) c

/-- What each call leaves in the array that it writes. -/
def outs : Outs (F := F)
  | 2 => fun r c => Pipeline.afterRegion (Prep.dat (tabs m) (V1 m) c) (V1 m c) (Proc.devRef .tc r)
  | _ => fun r c => Pipeline.afterRegion (Band.dat (tabs m) (mid m) c) (mid m c) (Proc.devRef .tc r)

/-- Only TensorCore cells have a level. -/
abbrev L : GSem nD τ sig → Finset Unit := fun g => if g.1.2 = .tc then {()} else ∅
/-- All levels are the lowest. -/
abbrev lv : GSem nD τ sig → Unit → ℕ := fun _ _ => 0
/-- No core owes anything. -/
abbrev noDues : Dev nD → CellTallies nD τ sig Unit := fun _ => 0
/-- What rides along with the buffers. -/
abbrev ride (c : Dev nD) : sProp 𝕄 := iprop((∃ Wd, owes (c : Thread nD τ) (noDues c) Wd) ∗ BI.emp ∗ BI.emp)

theorem cut (p : Fin 2) : Pipeline.LevelCut (pcfgs (F := F)) (tabs m) () L lv p noDues (fun _ => 0) where
  hι _ _ _ := by rw [show L _ = {()} from if_pos rfl]; exact Finset.mem_singleton_self _
  hιb _ _ _ := Nat.le_refl 0
  hD _ _ _ h := absurd h (Nat.lt_irrefl 0)

/-- The first call's buffers that no window stages, with its table, are what its body keeps. -/
theorem prep_in (c : Dev nD) : iprop(iprop(Pipeline.scopedRest (Ix := Unit) (Name := ℕ) (U := UR sig nD τ) (Lvl := ℕ) (Val := Elt F) (Pipeline.pin (pcfgs (F := F)) (tabs m) 0).spec c ∗ BI.emp)
    ∗ Pipeline.tablesAt (pcfgs (F := F)) (tabs m) 0 c) ⊢ (pdats m 0 c).Φ 0 := by
  rw [show (pdats m 0 c).Φ 0 = Prep.kept (tabs m) c from rfl]
  iintro ⟨⟨H, -⟩, Ht⟩
  isplitl [H]; · iexact H
  iexact Ht

/-- And they are given back. -/
theorem prep_out (c : Dev nD) : (pdats m 0 c).Φ (Fin.last (Pipeline.pin (pcfgs (F := F)) (tabs m) 0).N)
    ⊢ iprop(iprop(Pipeline.scopedRest (Ix := Unit) (Name := ℕ) (U := UR sig nD τ) (Lvl := ℕ) (Val := Elt F) (Pipeline.pin (pcfgs (F := F)) (tabs m) 0).spec c ∗ BI.emp)
      ∗ Pipeline.tablesAt (pcfgs (F := F)) (tabs m) 0 c) := by
  rw [show (pdats m 0 c).Φ (Fin.last (Pipeline.pin (pcfgs (F := F)) (tabs m) 0).N) = Prep.kept (tabs m) c from rfl]
  iintro ⟨H, Ht⟩
  isplitl [H]
  · isplitl [H]; · iexact H
    iempintro
  iexact Ht

/-- The second call's buffers that no window stages, with its table, are what its body keeps before the first point. -/
theorem band_in (c : Dev nD) : iprop(iprop(Pipeline.scopedRest (Ix := Unit) (Name := ℕ) (U := UR sig nD τ) (Lvl := ℕ) (Val := Elt F) (Pipeline.pin (pcfgs (F := F)) (tabs m) 1).spec c ∗ BI.emp)
    ∗ Pipeline.tablesAt (pcfgs (F := F)) (tabs m) 1 c) ⊢ (pdats m 1 c).Φ 0 := by
  rw [show (pdats m 1 c).Φ 0 = Band.kept (tabs m) c (Band.xIn (mid m) c) 0 from rfl]
  rw [show (Pipeline.scopedRest (Ix := Unit) (Name := ℕ) (U := UR sig nD τ) (Lvl := ℕ) (Val := Elt F) (Pipeline.pin (pcfgs (F := F)) (tabs m) 1).spec c : sProp 𝕄) = _ from scopedRest1_eq c]
  iintro ⟨⟨⟨H0, H1, H2, H3⟩, -⟩, Ht⟩
  isplitl [H0 H1 H2]
  · isplitl [H0]; · iexact H0
    isplitl [H1]; · iexact H1
    iexact H2
  isplitl [Ht]; · iexact Ht
  unfold Band.scr
  iexact H3

/-- And they are given back after the last point. -/
theorem band_out (c : Dev nD) : (pdats m 1 c).Φ (Fin.last (Pipeline.pin (pcfgs (F := F)) (tabs m) 1).N)
    ⊢ iprop(iprop(Pipeline.scopedRest (Ix := Unit) (Name := ℕ) (U := UR sig nD τ) (Lvl := ℕ) (Val := Elt F) (Pipeline.pin (pcfgs (F := F)) (tabs m) 1).spec c ∗ BI.emp)
      ∗ Pipeline.tablesAt (pcfgs (F := F)) (tabs m) 1 c) := by
  rw [show (pdats m 1 c).Φ (Fin.last (Pipeline.pin (pcfgs (F := F)) (tabs m) 1).N) = Band.kept (tabs m) c (Band.xIn (mid m) c) (Pipeline.pin (pcfgs (F := F)) (tabs m) 1).N from rfl]
  rw [show (Pipeline.scopedRest (Ix := Unit) (Name := ℕ) (U := UR sig nD τ) (Lvl := ℕ) (Val := Elt F) (Pipeline.pin (pcfgs (F := F)) (tabs m) 1).spec c : sProp 𝕄) = _ from scopedRest1_eq c]
  iintro ⟨⟨H0, H1, H2⟩, Ht, H3⟩
  ihave H3 := (Band.scr_loose c (Band.xIn (mid m) c) _) $$ H3
  isplitr [Ht]
  · isplitl [H0 H1 H2 H3]
    · isplitl [H0]; · iexact H0
      isplitl [H1]; · iexact H1
      isplitl [H2]; · iexact H2
      iexact H3
    iempintro
  iexact Ht

theorem full0 (c : Dev nD) (w) : (pdats m 0 c).share w = fullShare := (pdats m 0 c).share_full (fun _ => rfl) w
theorem full1 (c : Dev nD) (w) : (pdats m 1 c).share w = fullShare := (pdats m 1 c).share_full (fun _ => rfl) w

/-- The mesh has one device. -/
theorem one_dev (c : Dev nD) : c = 0 := Subsingleton.elim (α := Fin 1) c 0

theorem tab0 (c : Dev nD) (k) : (tabs m 0).1 k = V1 m c (Proc.devRef .tc ((pcfgs (F := F) 0).pre.ref k)) := by
  obtain rfl := one_dev c
  match k with
  | ⟨0, _⟩ => rfl
theorem tab1 (c : Dev nD) (k) : (tabs m 1).1 k = mid m c (Proc.devRef .tc ((pcfgs (F := F) 1).pre.ref k)) := by
  obtain rfl := one_dev c
  match k with
  | ⟨0, _⟩ => exact (V2_of m (outs m) 0 main_v1 (by decide)).symm

/-- The first call as a segment of the program. -/
def prepSeg : RegionSeg (pcfgs (F := F)) (tabs m) (pdats m) () defs₀ Variants.none L lv 0 :=
  Pipeline.RegionSeg.ofHeldInT (pcfgs (F := F)) (tabs m) (pdats m) () defs₀ Variants.none L lv 0 noDues (Pipeline.ucRefs τ sig)
    (fun _ => BI.emp) (fun _ => BI.emp) launch0 (fun c => (Prep.body (tabs m) (V1 m) c).loose) (fun _ _ => rfl) (fun _ => rfl)
    (full0 m) (prep_in m) (prep_out m) (fun _ => 0) (cut m 0) (fun _ => BI.emp) (V1 m) (fun _ _ => rfl) (tab0 m)

/-- The second call as a segment of the program, if the kernel's check holds of every start bin. -/
def bandSeg (hchk : ∀ s : Fin 64, k1_chk1 (starts m (ValueIdx.ix1 s))) : RegionSeg (pcfgs (F := F)) (tabs m) (pdats m) () defs₀ Variants.none L lv 1 :=
  Pipeline.RegionSeg.ofHeldInT (pcfgs (F := F)) (tabs m) (pdats m) () defs₀ Variants.none L lv 1 noDues (Pipeline.ucRefs τ sig)
    (fun _ => BI.emp) (fun _ => BI.emp) launch1 (fun c => (Band.body (tabs m) (mid m) hchk c).loose) (fun _ _ => rfl) (fun _ => rfl)
    (full1 m) (band_in m) (band_out m) (fun _ => 0) (cut m 1) (fun _ => BI.emp) (mid m) (fun _ _ => rfl) (tab1 m)

theorem uc0 : Pipeline.arrRefs (τ := τ) spec0 ⊆ Pipeline.ucRefs τ sig := Pipeline.arrRefs_sub_ucRefs spec0 (by decide)
theorem uc1 : Pipeline.arrRefs (τ := τ) spec1 ⊆ Pipeline.ucRefs τ sig := Pipeline.arrRefs_sub_ucRefs spec1 (by decide)
theorem ut0 : Pipeline.tblRefs (τ := τ) pre0 ⊆ Pipeline.ucRefs τ sig := Pipeline.tblRefs_sub_ucRefs pre0 (by decide)
theorem ut1 : Pipeline.tblRefs (τ := τ) pre1 ⊆ Pipeline.ucRefs τ sig := Pipeline.tblRefs_sub_ucRefs pre1 (by decide)

/-- Memory after the first call is memory before it with the prepared weights written. -/
theorem after_prep (c : Dev nD) : ∀ b ∈ Pipeline.ucRefs τ sig, Pipeline.afterRegion (Prep.dat (tabs m) (V1 m) c) (V1 m c) b = V2 m (outs m) c b := by
  intro b hb
  obtain ⟨r, -, rfl⟩ := Finset.mem_map.mp (Finset.mem_filter.mp hb).1
  by_cases h : r = main_v4
  · subst h; exact (Function.update_self (Proc.devRef .tc main_v4 : DevRef τ sig) (outs m 2 main_v4 c) (V1 m c)).symm
  · refine Eq.trans ?_ (V2_of m (outs m) c r (by simpa using h)).symm
    exact Pipeline.afterRegion_keeps _ _ winFacts0.arr_inj (fun _ => rfl) r
      (fun w e => by
        match w with
        | ⟨0, _⟩ => rfl
        | ⟨1, _⟩ => rfl
        | ⟨2, _⟩ => exact absurd e.symm h)

/-- Memory after the second call is memory before it with its result written. -/
theorem after_band (c : Dev nD) : ∀ b ∈ Pipeline.ucRefs τ sig, Pipeline.afterRegion (Band.dat (tabs m) (mid m) c) (mid m c) b = V3 m (outs m) c b := by
  intro b hb
  obtain ⟨r, -, rfl⟩ := Finset.mem_map.mp (Finset.mem_filter.mp hb).1
  by_cases h : r = main_v5
  · subst h; exact (Function.update_self (Proc.devRef .tc main_v5 : DevRef τ sig) (outs m 3 main_v5 c) (V2 m (outs m) c)).symm
  · refine Eq.trans ?_ (V3_of m (outs m) c r (by simpa using h)).symm
    exact Pipeline.afterRegion_keeps _ _ winFacts1.arr_inj (fun _ => rfl) r
      (fun w e => by
        match w with
        | ⟨0, _⟩ => rfl
        | ⟨1, _⟩ => rfl
        | ⟨2, _⟩ => rfl
        | ⟨3, _⟩ => exact absurd e.symm h)

theorem prep_pre (c : Dev nD) : iprop(StableHlo.held (c : Thread nD τ) (Pipeline.ucRefs τ sig) (V1 m c) ∗ ride c) ⊢ (prepSeg m).pre c :=
  Pipeline.RegionSeg.ofHeldInT_pre (pcs := pcfgs (F := F)) (a := tabs m) (pdats := pdats m) (ι := ()) (defs₀ := defs₀) (𝒱₀ := Variants.none) (L := L) (lv := lv) (p := 0) (D := noDues)
    (S := Pipeline.ucRefs τ sig) uc0 ut0 (X := fun _ => BI.emp) (Y := fun _ => BI.emp) (kit := launch0) (R := fun _ => BI.emp) (W := V1 m) (b := fun _ => 0)
    (hbody := fun c => (Prep.body (tabs m) (V1 m) c).loose) (howed := fun _ _ => rfl) (hrec := fun _ => rfl) (hshare := full0 m) (hin := prep_in m) (hout := prep_out m) (hcut := cut m 0) (hW := fun _ _ => rfl) (hT := tab0 m) c
theorem prep_post (c : Dev nD) : (prepSeg m).post c ⊢ iprop(StableHlo.held (c : Thread nD τ) (Pipeline.ucRefs τ sig) (V2 m (outs m) c) ∗ ride c) := by
  rw [← StableHlo.held_congr (c : Thread nD τ) (after_prep m c)]
  exact Pipeline.RegionSeg.ofHeldInT_post (pcs := pcfgs (F := F)) (a := tabs m) (pdats := pdats m) (ι := ()) (defs₀ := defs₀) (𝒱₀ := Variants.none) (L := L) (lv := lv) (p := 0) (D := noDues)
    (S := Pipeline.ucRefs τ sig) uc0 ut0 (X := fun _ => BI.emp) (Y := fun _ => BI.emp) (kit := launch0) (R := fun _ => BI.emp) (W := V1 m) (b := fun _ => 0)
    (hbody := fun c => (Prep.body (tabs m) (V1 m) c).loose) (howed := fun _ _ => rfl) (hrec := fun _ => rfl) (hshare := full0 m) (hin := prep_in m) (hout := prep_out m) (hcut := cut m 0) (hW := fun _ _ => rfl) (hT := tab0 m) c
theorem band_pre (hchk : ∀ s : Fin 64, k1_chk1 (starts m (ValueIdx.ix1 s))) (c : Dev nD) :
    iprop(StableHlo.held (c : Thread nD τ) (Pipeline.ucRefs τ sig) (V2 m (outs m) c) ∗ ride c) ⊢ (bandSeg m hchk).pre c :=
  Pipeline.RegionSeg.ofHeldInT_pre (pcs := pcfgs (F := F)) (a := tabs m) (pdats := pdats m) (ι := ()) (defs₀ := defs₀) (𝒱₀ := Variants.none) (L := L) (lv := lv) (p := 1) (D := noDues)
    (S := Pipeline.ucRefs τ sig) uc1 ut1 (X := fun _ => BI.emp) (Y := fun _ => BI.emp) (kit := launch1) (R := fun _ => BI.emp) (W := mid m) (b := fun _ => 0)
    (hbody := fun c => (Band.body (tabs m) (mid m) hchk c).loose) (howed := fun _ _ => rfl) (hrec := fun _ => rfl) (hshare := full1 m) (hin := band_in m) (hout := band_out m) (hcut := cut m 1) (hW := fun _ _ => rfl) (hT := tab1 m) c
theorem band_post (hchk : ∀ s : Fin 64, k1_chk1 (starts m (ValueIdx.ix1 s))) (c : Dev nD) :
    (bandSeg m hchk).post c ⊢ iprop(StableHlo.held (c : Thread nD τ) (Pipeline.ucRefs τ sig) (V3 m (outs m) c) ∗ ride c) := by
  rw [← StableHlo.held_congr (c : Thread nD τ) (after_band m c)]
  exact Pipeline.RegionSeg.ofHeldInT_post (pcs := pcfgs (F := F)) (a := tabs m) (pdats := pdats m) (ι := ()) (defs₀ := defs₀) (𝒱₀ := Variants.none) (L := L) (lv := lv) (p := 1) (D := noDues)
    (S := Pipeline.ucRefs τ sig) uc1 ut1 (X := fun _ => BI.emp) (Y := fun _ => BI.emp) (kit := launch1) (R := fun _ => BI.emp) (W := mid m) (b := fun _ => 0)
    (hbody := fun c => (Band.body (tabs m) (mid m) hchk c).loose) (howed := fun _ _ => rfl) (hrec := fun _ => rfl) (hshare := full1 m) (hin := band_in m) (hout := band_out m) (hcut := cut m 1) (hW := fun _ _ => rfl) (hT := tab1 m) c

end Cert.KernelIdeal.Whole

end
-- ==== Proof.Ideal.Run.lean ====
module

public import proofs.«01_k».proof.Proof.Ideal.Segments
public import Idealize.ShloMosaic.Lib.Pipeline.RegionArraysTS
public import Idealize.ShloMosaic.Lib.Pipeline.FrameBody
public import Idealize.ShloMosaic.Lib.Pipeline.Kit

/-!
# The run of the whole program

The host parts and the two calls put together: the program runs, ends with its result as its last host part leaves
it, its arguments as they were, and every counter at zero.
-/

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Seg HostSeg RegionSeg)
open Cert.KernelIdeal Cert.KernelIdeal.Gen
open Cert.KernelIdeal.Prep (swap_eq)

variable {F : FTy → Type} [FloatOps F]

local notation "𝕄" => MT nD τ sig Unit (Elt F) ℕ (UR sig nD τ) ℕ

open Idealize.ShloMosaic.Rounds

variable (m : (ℓ : Loc nD τ sig) → Buf (Elt F) ℓ)

/-- The launch's user resource: every staging cell at its start and a token for every transfer. -/
def u₀ : UR sig nD τ := initOf (Pipeline.cells (Pipeline.pin (pcfgs (F := F)) (tabs m)) (cellOf_inj (tabs m))) (Pipeline.launchToks (Pipeline.pin (pcfgs (F := F)) (tabs m)) (cellOf_inj (tabs m)))

/-- It is what the pipelines' rounds start from. -/
theorem launch_user : (ownU (u₀ m) : sProp 𝕄) ⊢ |={Set.univ}=> iprop(BI.own (emb₁ (initOf (Pipeline.cells (Pipeline.pin (pcfgs (F := F)) (tabs m)) (cellOf_inj (tabs m)))
      (Pipeline.launchToks (Pipeline.pin (pcfgs (F := F)) (tabs m)) (cellOf_inj (tabs m))))) ∗ bigSep Finset.univ fun _ : Dev nD => (BI.emp : sProp 𝕄)) := by
  iintro Hu
  imodintro
  isplitl [Hu]
  · iapply (show (ownU (u₀ m) : sProp 𝕄) ⊢ BI.own (emb₁ (initOf (Pipeline.cells (Pipeline.pin (pcfgs (F := F)) (tabs m)) (cellOf_inj (tabs m)))
      (Pipeline.launchToks (Pipeline.pin (pcfgs (F := F)) (tabs m)) (cellOf_inj (tabs m))))) from .rfl)
    iexact Hu
  iapply (show (BI.emp : sProp 𝕄) ⊢ bigSep Finset.univ (fun _ : Dev nD => (BI.emp : sProp 𝕄)) from by rw [BI.bigSep_emp_const])
  iempintro

/-- What a core rides with at launch. -/
theorem launch_ride (ρ : Dev nD → PrngReg) :
    iprop((bigSep Finset.univ fun c : Dev nD => iprop(unscopedSems0 c ∗ owes (c : Thread nD τ) (noDues c) ∅ ∗ Pipeline.launchCred noDues c ∗ prngReg c (ρ c) ∗ BI.emp)) ∗ levAts L lv)
      ⊢ (|={Set.univ}=> bigSep Finset.univ ride : sProp 𝕄) := by
  have one : ∀ c : Dev nD, (iprop(unscopedSems0 c ∗ owes (c : Thread nD τ) (noDues c) ∅ ∗ Pipeline.launchCred noDues c ∗ prngReg c (ρ c) ∗ BI.emp) : sProp 𝕄) ⊢ ride c := fun c => by
    iintro ⟨-, HO, -, -, -⟩
    isplitl [HO]; · iexists _; iexact HO
    isplitr <;> iempintro
  have all : (bigSep Finset.univ fun c : Dev nD => (iprop(unscopedSems0 c ∗ owes (c : Thread nD τ) (noDues c) ∅ ∗ Pipeline.launchCred noDues c ∗ prngReg c (ρ c) ∗ BI.emp) : sProp 𝕄))
      ⊢ bigSep Finset.univ ride := bigSep_mono fun c _ => one c
  iintro ⟨H, -⟩
  imodintro
  iapply all
  iexact H

theorem ride_end (c : Dev nD) : ride c ⊢ (iprop(∃ W, owes (c : Thread nD τ) (0 : CellTallies nD τ sig Unit) W) : sProp 𝕄) := by
  iintro ⟨H, -⟩
  iexact H

/-- Each core's buffers and riders, at launch, core by core. -/
theorem launch_split (ρ : Dev nD → PrngReg) :
    (bigSep Finset.univ fun c : Dev nD => iprop(unscopedBufs c (fun b => m ((c.tc : Thread nD τ).loc b)) ∗ unscopedSems0 c
          ∗ owes (c.tc : Thread nD τ) (noDues c) ∅ ∗ Pipeline.launchCred noDues c ∗ prngReg c (ρ c) ∗ BI.emp))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (noDues c) ∅ ∗ Pipeline.launchCred noDues c ∗ prngReg c (ρ c) ∗ BI.emp))
            : sProp 𝕄) := by
  rw [← bigSep_sep']
  exact bigSep_mono fun c _ => by rw [← Pipeline.unscopedBufs_held (Ix := Unit) (Name := ℕ) (U := UR sig nD τ) (Lvl := ℕ) c (V0 m c)]; exact BI.Entails.refl _

/-- The cores' buffers and what rides with them, put together core by core. -/
theorem launch_join :
    (iprop((bigSep Finset.univ fun c : Dev nD => StableHlo.held (c : Thread nD τ) (Pipeline.ucRefs τ sig) (V0 m c)) ∗ bigSep Finset.univ ride) : sProp 𝕄)
      ⊢ bigSep Finset.univ fun c : Dev nD => iprop(StableHlo.held (c : Thread nD τ) (Pipeline.ucRefs τ sig) (V0 m c) ∗ ride c) := by
  rw [bigSep_sep' (Φ := fun c : Dev nD => StableHlo.held (c : Thread nD τ) (Pipeline.ucRefs τ sig) (V0 m c)) (Ψ := ride)]

set_option backward.isDefEq.respectTransparency.types false in
/-- The whole program, if the kernel's check holds of every start bin: it ends with its result as the last host
    stretch leaves it, its arguments as they were, and every counter at zero. -/
theorem run (ρ : Dev nD → PrngReg) (hchk : ∀ s : Fin 64, k1_chk1 (starts m (ValueIdx.ix1 s))) :
    θ_run defs (onTc (τ := τ) (main (F := F))) ⟨m, fun _ => 0, ρ⟩ (fun r => (∀ c : Dev nD,
      r.2.mem ((c.tc : Thread nD τ).loc main_v6) = V4 m (outs m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) (tabs m) (pdats m) () (cellOf_inj (tabs m)) emb₁ defs₀ Variants.none L lv m ρ main
    (segs m (outs m) Variants.none L lv (fun _ => ride) () (tabs m) (pdats m) (prepSeg m) (bandSeg m hchk))
    (fun c Q => by
      rewrite [main_chain c, Seg.run_eq_chain,
        show (segs m (outs m) Variants.none L lv (fun _ => ride) () (tabs m) (pdats m) (prepSeg m) (bandSeg m hchk) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) noDues
    (fun g h => if_neg h) (fun _ => BI.emp) (u₀ m) (launch_user m)
    (T₀ := fun c => iprop(StableHlo.held (c : Thread nD τ) (Pipeline.ucRefs τ sig) (V0 m c) ∗ ride c))
    (Tₙ := fun c => StableHlo.held (c : Thread nD τ) (Pipeline.ucRefs τ sig) (V4 m (outs m) c))
    (hch := fun c => ⟨.rfl, prep_pre m c, BIBase.Entails.trans (prep_post m c) (band_pre m hchk c), band_post m hchk c, sep_mono .rfl (ride_end c)⟩)
    (hinit := ?_) (QY := fun c s => s.mem ((c.tc : Thread nD τ).loc main_v6) = V4 m (outs m) c main_v6 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · iintro ⟨H, Hla⟩
    ihave H' := (launch_split m ρ) $$ H
    icases H' with ⟨Hh, Hr⟩
    imod (launch_ride ρ) $$ [Hr Hla] with HE
    · isplitl [Hr]; · iexact Hr
      iexact Hla
    imodintro
    iapply (launch_join m)
    isplitl [Hh]; · iexact Hh
    iexact HE
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨h (Proc.devRef .tc main_v6) (Finset.mem_filter.mpr ⟨StableHlo.devRef_mem_tcRefs main_v6, by decide⟩),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c)⟩
    · iexact HSI

end Cert.KernelIdeal.Whole

end
-- ==== Proof.Bits.Same.lean ====
module
public import proofs.«01_k».proof.KernelIdeal
public import proofs.«01_k».proof.Proof.Gen.KernelIdeal
public import proofs.«01_k».proof.Kernel
public import proofs.«01_k».proof.Proof.Gen.Kernel

/-!
# The idealized program is the printed program

Nothing was rewritten on the way to the idealized program, so that the two texts agree: body by body, then the table of
bodies, then the main program.
-/

@[expose] public section
set_option maxRecDepth 65536
set_option maxHeartbeats 4000000
set_option Elab.async false
noncomputable section
namespace Cert.Bits
open Idealize.ShloMosaic Idealize.SL.Sem Idealize.ShloMosaic.TcCoe Cert.Kernel

variable {F : FTy → Type} [FloatOps F]

/-- The first body's loop step is the same. -/
theorem k0_part1_eq : Cert.KernelIdeal.k0_part1 (F := F) = Cert.Kernel.k0_part1 (F := F) := by
  unfold Cert.KernelIdeal.k0_part1 Cert.Kernel.k0_part1
  rfl

/-- The first body is the same. -/
theorem cc0__prep_kernel_eq : Cert.KernelIdeal.cc0__prep_kernel (F := F) = Cert.Kernel.cc0__prep_kernel (F := F) := by
  unfold Cert.KernelIdeal.cc0__prep_kernel Cert.Kernel.cc0__prep_kernel
  rfl

/-- The second body's first part is the same. -/
theorem k1_part1_eq : Cert.KernelIdeal.k1_part1 (F := F) = Cert.Kernel.k1_part1 (F := F) := by
  unfold Cert.KernelIdeal.k1_part1 Cert.Kernel.k1_part1
  rfl

/-- The second body's second part is the same. -/
theorem k1_part2_eq : Cert.KernelIdeal.k1_part2 (F := F) = Cert.Kernel.k1_part2 (F := F) := by
  unfold Cert.KernelIdeal.k1_part2 Cert.Kernel.k1_part2
  rfl

/-- The second body's third part is the same. -/
theorem k1_part3_eq : Cert.KernelIdeal.k1_part3 (F := F) = Cert.Kernel.k1_part3 (F := F) := by
  unfold Cert.KernelIdeal.k1_part3 Cert.Kernel.k1_part3
  rfl

/-- The second body's fourth part is the same. -/
theorem k1_part4_eq : Cert.KernelIdeal.k1_part4 (F := F) = Cert.Kernel.k1_part4 (F := F) := by
  unfold Cert.KernelIdeal.k1_part4 Cert.Kernel.k1_part4
  rfl

/-- The second body is the same. -/
theorem cc1__band_kernel_eq : Cert.KernelIdeal.cc1__band_kernel (F := F) = Cert.Kernel.cc1__band_kernel (F := F) := by
  unfold Cert.KernelIdeal.cc1__band_kernel Cert.Kernel.cc1__band_kernel
  rfl

/-- The table of bodies is the same. -/
theorem defs₀_eq : Cert.KernelIdeal.defs₀ (F := F) = Cert.Kernel.defs₀ (F := F) := by
  unfold Cert.KernelIdeal.defs₀ Cert.Kernel.defs₀
  refine congrArg Defs.onTc (funext fun l => funext fun x => ?_)
  rcases l with ⟨_ | _ | n, h⟩
  · obtain ⟨t, s⟩ := x
    exact congrFun (congrFun (congrFun (congrFun (congrFun (congrFun (congrFun (congrFun (congrFun cc0__prep_kernel_eq _) _) _) _) _) _) _) _) _
  · obtain ⟨t, s⟩ := x
    rfl
  · exact absurd h (by omega)

/-- The two calls' pipelines are the same. -/
theorem pcfgs_eq : Cert.KernelIdeal.pcfgs (F := F) = Cert.Kernel.pcfgs (F := F) := rfl

/-- The table with the pipelines is the same. -/
theorem defs_eq : Cert.KernelIdeal.defs (F := F) = Cert.Kernel.defs (F := F) := by
  unfold Cert.KernelIdeal.defs Cert.Kernel.defs
  exact congrArg (Pipeline.defs (Cert.Kernel.pcfgs (F := F))) defs₀_eq

/-- The main program is the same. -/
theorem main_eq : Cert.KernelIdeal.main (F := F) = Cert.Kernel.main (F := F) := by
  unfold Cert.KernelIdeal.main Cert.Kernel.main
  rfl
end Cert.Bits
end
-- ==== Proof.Bits.Frame.lean ====
module

public import proofs.«01_k».proof.Proof.Ideal.Run
public import proofs.«01_k».proof.Proof.Bits.Same

/-!
# The run of the program as printed

The idealized program is the printed program, name for name, so the run proved for the one is the run of
the other.
-/

@[expose] public section

set_option maxHeartbeats 8000000

noncomputable section

namespace Cert.Bits

open Idealize.ShloMosaic Idealize.SL.Sem Idealize.ShloMosaic.TcCoe Cert.Kernel

variable {F : FTy → Type} [FloatOps F]

/-- The printed kernel runs, leaves its arguments alone, and ends with every counter at zero. -/
theorem run (m : (ℓ : Loc nD τ sig) → Buf (Elt F) ℓ) (ρ : Dev nD → PrngReg)
    (hchk : ∀ s : Fin 64, Cert.KernelIdeal.k1_chk1 (Cert.KernelIdeal.Whole.starts (F := F) m (ValueIdx.ix1 s))) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have h := Cert.KernelIdeal.Whole.run (F := F) m ρ hchk
  rw [defs_eq, main_eq] at h
  exact (θ_run _ _ _).mono (fun r hr => ⟨fun c => (hr.1 c).2, hr.2⟩) h

end Cert.Bits

end
-- ==== Proof.Value.Pre.lean ====
module

public import proofs.«01_k».proof.Defs
public import proofs.«01_k».proof.Proof.Gen.Pre_idxes_name_bins
public import proofs.«01_k».proof.Proof.Gen.Pre_bands_are_runs
public import Idealize.ShloMosaic.Lib.Pointwise

/-!
# What the two preconditions say

Both are functions of the arguments that come out all ones. Read at an index, the first says that every
bin index lies between 0 and 1024, the second says in addition that each index is its band's first index
plus its place in the band, unless its mask is zero.
-/

@[expose] public section

noncomputable section

namespace Cert.Pre

open Idealize.ShloMosaic

theorem and_bits (p q : Bool) : IntOp.andi (BitVec.ofBool p) (BitVec.ofBool q) = BitVec.ofBool (p && q) := by
  cases p <;> cases q <;> rfl

theorem or_bits (p q : Bool) : IntOp.ori (BitVec.ofBool p) (BitVec.ofBool q) = BitVec.ofBool (p || q) := by
  cases p <;> cases q <;> rfl

theorem bit_one (p : Bool) : BitVec.ofBool p = 1#1 ↔ p = true := by cases p <;> decide

/-- A signed word between 0 and 1024 is the word of a natural number up to 1024. -/
theorem range_nat (w : BitVec 32) (h0 : BitVec.sle 0#32 w = true) (h1 : BitVec.sle w 1024#32 = true) : w.toNat ≤ 1024 := by
  simp only [BitVec.sle, decide_eq_true_eq, BitVec.toInt, BitVec.toNat_ofNat] at h0 h1
  have := w.isLt
  split at h0 <;> split at h1 <;> omega

variable {F : FTy → Type} [FloatOps F]

/-- The first precondition at an index. -/
theorem bins (x0 : FVec F Cert.Pre_idxes_name_bins.S4x2x512x1025 .f32) (x1 : FVec F Cert.Pre_idxes_name_bins.S64x2x125x128 .f32)
    (x2 : FVec F Cert.Pre_idxes_name_bins.S64x128 .f32) (x3 : IVec Cert.Pre_idxes_name_bins.S64x125 32) (x4 : FVec F Cert.Pre_idxes_name_bins.S64x125 .f32)
    (h : Cert.Pre_idxes_name_bins.fn (F := F) x0 x1 x2 x3 x4 = fun _ => 1#1) (y : Cert.Pre_idxes_name_bins.S64x125.Idx) : (x3 y).toNat ≤ 1024 := by
  have e := congrFun h y
  simp only [Cert.Pre_idxes_name_bins.fn, andi, cmpi, broadcastInDim, constantI, IntOp.cmpi, and_bits, bit_one, Bool.and_eq_true] at e
  exact range_nat _ e.1 e.2

/-- The second precondition bounds the bins too. -/
theorem runs_bins (x0 : FVec F Cert.Pre_bands_are_runs.S4x2x512x1025 .f32) (x1 : FVec F Cert.Pre_bands_are_runs.S64x2x125x128 .f32)
    (x2 : FVec F Cert.Pre_bands_are_runs.S64x128 .f32) (x3 : IVec Cert.Pre_bands_are_runs.S64x125 32) (x4 : FVec F Cert.Pre_bands_are_runs.S64x125 .f32)
    (h : Cert.Pre_bands_are_runs.fn (F := F) x0 x1 x2 x3 x4 = fun _ => 1#1) (y : Cert.Pre_bands_are_runs.S64x125.Idx) : (x3 y).toNat ≤ 1024 := by
  have e := congrFun h y
  have split : ∀ p q : BitVec 1, IntOp.andi p q = 1#1 → p = 1#1 := by decide
  have e := split _ _ e
  simp only [andi, cmpi, broadcastInDim, constantI, IntOp.cmpi, and_bits, bit_one, Bool.and_eq_true] at e
  exact range_nat _ e.1 e.2

/-- The second precondition at an index. -/
theorem runs (x0 : FVec Ideal Cert.Pre_bands_are_runs.S4x2x512x1025 .f32) (x1 : FVec Ideal Cert.Pre_bands_are_runs.S64x2x125x128 .f32)
    (x2 : FVec Ideal Cert.Pre_bands_are_runs.S64x128 .f32) (x3 : IVec Cert.Pre_bands_are_runs.S64x125 32) (x4 : FVec Ideal Cert.Pre_bands_are_runs.S64x125 .f32)
    (h : Cert.Pre_bands_are_runs.fn (F := Ideal) x0 x1 x2 x3 x4 = fun _ => 1#1) (s : Fin 64) (k : Fin 125) :
    (x3 (ValueIdx.ix2 s k)).toNat ≤ 1024 ∧ (x4 (ValueIdx.ix2 s k) = (0 : EReal) ∨ (x3 (ValueIdx.ix2 s k)).toNat = (x3 (ValueIdx.ix2 s 0)).toNat + k.val) := by
  have e : IntOp.andi (IntOp.andi (BitVec.ofBool (BitVec.sle 0#32 (x3 (ValueIdx.ix2 s k)))) (BitVec.ofBool (BitVec.sle (x3 (ValueIdx.ix2 s k)) 1024#32)))
      (IntOp.ori (Ideal.cmp .oeq (x4 (ValueIdx.ix2 s k)) (Ideal.ofBits .f32 0x00000000#32))
        (BitVec.ofBool (x3 (ValueIdx.ix2 s k) == IntOp.addi (x3 (ValueIdx.ix2 s 0)) (BitVec.ofNat 32 k.val)))) = 1#1 := by
    refine Eq.trans ?_ (congrFun h (ValueIdx.ix2 s k))
    have hx : x3 (ValueIdx.ix2 s 0) = extractStridedSlice Cert.Pre_bands_are_runs.S64x1 ![0, 0] x3 Cert.Pre_bands_are_runs.Facts.slices_S64x125_S64x1_0_0 (ValueIdx.ix2 s 0) := by
      refine congrArg x3 (funext fun a => Fin.ext ?_)
      match a with
      | ⟨0, _⟩ => exact (Nat.zero_add _).symm
      | ⟨1, _⟩ => rfl
    have hb : ∀ v : IVec Cert.Pre_bands_are_runs.S64x1 32,
        broadcastInDim Cert.Pre_bands_are_runs.S64x125 ![0, 1] Cert.Pre_bands_are_runs.Facts.bcast_S64x1_S64x125_0_1 v (ValueIdx.ix2 s k) = v (ValueIdx.ix2 s 0) := by
      intro v
      refine congrArg v (funext fun a => ?_)
      match a with
      | ⟨0, _⟩ => rfl
      | ⟨1, _⟩ => rfl
    have hi : broadcastInDim Cert.Pre_bands_are_runs.S64x125 ![0, 1] Cert.Pre_bands_are_runs.Facts.bcast_S1x125_S64x125_0_1
        (broadcastInDim Cert.Pre_bands_are_runs.S1x125 ![1] Cert.Pre_bands_are_runs.Facts.bcast_S125_S1x125_1 (iotaInDim Cert.Pre_bands_are_runs.S125 32 0)) (ValueIdx.ix2 s k)
          = BitVec.ofNat 32 k.val := rfl
    rw [hx, ← hb (extractStridedSlice Cert.Pre_bands_are_runs.S64x1 ![0, 0] x3 Cert.Pre_bands_are_runs.Facts.slices_S64x125_S64x1_0_0), ← hi]
    rfl
  have z : Ideal.ofBits .f32 0x00000000#32 = (0 : EReal) := by simp [Ideal.ofBits, Ideal.ieee]
  rw [z] at e
  simp only [Ideal.cmp, and_bits, or_bits, bit_one, Bool.and_eq_true, Bool.or_eq_true, decide_eq_true_eq, beq_iff_eq] at e
  have r := range_nat _ e.1.1 e.1.2
  refine ⟨r, e.2.imp id fun e => ?_⟩
  have e0 := (runs_bins x0 x1 x2 x3 x4 h (ValueIdx.ix2 s 0))
  rw [e, IntOp.addi, BitVec.toNat_add, BitVec.toNat_ofNat]
  have := k.isLt
  omega

end Cert.Pre

end
-- ==== Proof.Value.Ref.lean ====
module

public import proofs.«01_k».proof.Proof.Gen.ReferenceIdeal.Run
public import Idealize.ShloMosaic.Lib.Pointwise

/-!
# The reference, element by element

The reference gathers each band's input columns, multiplies by the masks, contracts with the weights over
channels and band places, and adds the bias.
-/

@[expose] public section

set_option maxRecDepth 16384

noncomputable section

namespace Cert.ReferenceIdeal.Value

open Idealize.ShloMosaic Idealize.ShloMosaic.TcCoe
open Cert.ReferenceIdeal Cert.ReferenceIdeal.Gen

/-- The reference's result as one term of its arguments. -/
def result (X : FVec Ideal S4x2x512x1025 .f32) (W : FVec Ideal S64x2x125x128 .f32) (B : FVec Ideal S64x128 .f32) (I : IVec S64x125 32)
    (K : FVec Ideal S64x125 .f32) : FVec Ideal S4x128x512x64 .f32 :=
  transpose S4x128x512x64 [0, 3, 1, 2] (addf (transpose S4x512x64x128 [2, 3, 0, 1] (Host.dotGeneral dot_S64x2x125x128_S4x2x512x64x125_S64x128x4x512_12_14_3_02_0_3 none W (mulf (Host.gather gather_S4x2x512x1025_S64x125x1_S4x2x512x64x125_012_3_n_n_3_2_425121 X (broadcastInDim S64x125x1 ![0, 1] bcast_S64x125_S64x125x1_0_1 (select (cmpi .slt I (broadcastInDim S64x125 ![] bcast_S_S64x125 (constantI S_ 32 0#32))) (addi I (broadcastInDim S64x125 ![] bcast_S_S64x125 (constantI S_ 32 1025#32))) I))) (broadcastInDim S4x2x512x64x125 ![0, 1, 2, 3, 4] bcast_S1x1x1x64x125_S4x2x512x64x125_0_1_2_3_4 (broadcastInDim S1x1x1x64x125 ![3, 4] bcast_S64x125_S1x1x1x64x125_3_4 K)))) transposes_S64x128x4x512_S4x512x64x128_2_3_0_1) (broadcastInDim S4x512x64x128 ![0, 1, 2, 3] bcast_S1x1x64x128_S4x512x64x128_0_1_2_3 (broadcastInDim S1x1x64x128 ![2, 3] bcast_S64x128_S1x1x64x128_2_3 B))) transposes_S4x512x64x128_S4x128x512x64_0_3_1_2

/-- Where a gathered element comes from: the column that the index names, clamped to the input's columns. -/
theorem gather_at (X : FVec Ideal S4x2x512x1025 .f32) (J : IVec S64x125x1 32) (b : Fin 4) (ch : Fin 2) (t : Fin 512) (s : Fin 64) (k : Fin 125) :
    Host.gather gather_S4x2x512x1025_S64x125x1_S4x2x512x64x125_012_3_n_n_3_2_425121 X J (ix5 b ch t s k)
      = X (ix4 b ch t ⟨min (J (ix3 s k 0)).toInt.toNat 1024, by omega⟩) := by
  refine congrArg X (funext fun a => Fin.ext ?_)
  match a with
  | ⟨0, _⟩ => exact (Nat.zero_add _).trans rfl
  | ⟨1, _⟩ => exact (Nat.zero_add _).trans rfl
  | ⟨2, _⟩ => exact (Nat.zero_add _).trans rfl
  | ⟨3, _⟩ =>
    show GatherDims.start _ _ J 3 + GatherDims.batchCoord _ _ 3 + GatherDims.offCoord _ _ 3 = min (J (ix3 s k 0)).toInt.toNat 1024
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (3 : Fin 4) ∈ gather_S4x2x512x1025_S64x125x1_S4x2x512x64x125_012_3_n_n_3_2_425121.startIndexMap from List.mem_singleton.mpr rfl)]
    refine congrArg (fun i => min (J i).toInt.toNat 1024) (funext fun e => Fin.ext ?_)
    match e with
    | ⟨0, _⟩ => rfl
    | ⟨1, _⟩ => rfl
    | ⟨2, _⟩ => rfl

/-- An index in the columns' range is not negative, so it is taken as it is and no clamp moves it. -/
theorem column (w : BitVec 32) (h : w.toNat ≤ 1024) :
    min (Scalar.select (IntOp.cmpi CmpIPredicate.slt w 0#32) (IntOp.addi w 1025#32) w).toInt.toNat 1024 = w.toNat := by
  have hi : w.toInt = w.toNat := BitVec.toInt_eq_toNat_of_lt (by omega)
  have hs : IntOp.cmpi CmpIPredicate.slt w 0#32 = 0#1 := by
    have hn : ¬ (w.toNat : Int) < 0 := by omega
    simp [IntOp.cmpi, BitVec.slt, hi, hn]
  rw [hs]
  show min w.toInt.toNat 1024 = _
  rw [hi]
  omega

/-- A result element: the sum over channels and band places, plus the bias. -/
theorem result_at (X : FVec Ideal S4x2x512x1025 .f32) (W : FVec Ideal S64x2x125x128 .f32) (B : FVec Ideal S64x128 .f32) (I : IVec S64x125 32)
    (K : FVec Ideal S64x125 .f32) (h : ∀ y, (I y).toNat ≤ 1024) (b : Fin 4) (o : Fin 128) (t : Fin 512) (s : Fin 64) :
    result X W B I K (ValueIdx.ix4 b o t s) =
      ((∑ ch : Fin 2, ∑ k : Fin 125, W (ValueIdx.ix4 s ch k o) *
        (X (ValueIdx.ix4 b ch t ⟨(I (ValueIdx.ix2 s k)).toNat, Nat.lt_succ_of_le (h _)⟩) * K (ValueIdx.ix2 s k))) + B (ValueIdx.ix2 s o) : EReal) := by
  have e : result X W B I K (ix4 b o t s) = ((∑ ch : Fin 2, ∑ k : Fin 125, W (ix4 s ch k o) * (X (ix4 b ch t
      ⟨min (Scalar.select (IntOp.cmpi CmpIPredicate.slt (I (ix2 s k)) 0#32) (IntOp.addi (I (ix2 s k)) 1025#32) (I (ix2 s k))).toInt.toNat 1024,
        by omega⟩) * K (ix2 s k))) + B (ix2 s o) : EReal) := by
    pointwise [result, gather_at]
  refine e.trans (congrArg (· + _) (Finset.sum_congr rfl fun ch _ => Finset.sum_congr rfl fun k _ => ?_))
  exact congrArg (fun j => W (ix4 s ch k o) * (X (ix4 b ch t j) * K (ix2 s k))) (Fin.ext (column _ (h _)))

end Cert.ReferenceIdeal.Value

end
-- ==== Proof.Value.Starts.lean ====
module

public import proofs.«01_k».proof.Proof.Ideal.Segments
public import Idealize.ShloMosaic.Lib.Pointwise

/-!
# What the first host stretch leaves, and where a band's window starts

The host part before the two calls takes each band's first bin index as its start and reshapes the masks
and the bias. A start between 0 and 1024 gives a window of 256 columns that begins at the multiple of
128 below the start and ends within the padded 1280 columns.
-/

@[expose] public section

set_option maxRecDepth 16384

noncomputable section

namespace Cert.KernelIdeal.Whole

open Idealize.ShloMosaic Idealize.ShloMosaic.TcCoe
open Cert.KernelIdeal Cert.KernelIdeal.Gen
open Idealize.ShloMosaic.StableHlo

variable {F : FTy → Type} [FloatOps F]
variable (m : (ℓ : Loc nD τ sig) → Buf (Elt F) ℓ)

/-- The start bins are the first column of the bin indices. -/
theorem starts_eq (s : Fin 64) : starts m (ValueIdx.ix1 s) = m (((0 : Dev nD).tc : Thread nD τ).loc main_arg3) (ValueIdx.ix2 s 0) := by
  have h : V1 m 0 main_v1 = shapeCast S64 (extractStridedSlice S64x1 ![0, 0] (m (((0 : Dev nD).tc : Thread nD τ).loc main_arg3)) slices_S64x125_S64x1_0_0) shapeCasts_S64x1_S64 := by
    after_results <;> rfl
  show V1 m 0 main_v1 (ValueIdx.ix1 s) = _
  rw [h]
  pointwise []
  rfl

/-- The masks as the first call reads them. -/
theorem masks_eq (c : Dev nD) (s : Fin 64) (k : Fin 125) :
    V1 m c main_v2 (ValueIdx.ix3 s 0 k) = m ((c.tc : Thread nD τ).loc main_arg4) (ValueIdx.ix2 s k) := by
  have h : V1 m c main_v2 = shapeCast S64x1x125 (m ((c.tc : Thread nD τ).loc main_arg4)) shapeCasts_S64x125_S64x1x125 := by
    after_results <;> rfl
  rw [h]
  pointwise []
  rfl

/-- The bias as the second call reads it. -/
theorem bias_eq (c : Dev nD) (s : Fin 64) (k : Fin 128) :
    V1 m c main_v3 (ValueIdx.ix3 s 0 k) = m ((c.tc : Thread nD τ).loc main_arg2) (ValueIdx.ix2 s k) := by
  have h : V1 m c main_v3 = shapeCast S64x1x128 (m ((c.tc : Thread nD τ).loc main_arg2)) shapeCasts_S64x128_S64x1x128 := by
    after_results <;> rfl
  rw [h]
  pointwise []
  rfl

/-- A window starts at the multiple of 128 below its band's start. -/
theorem off_nat : ∀ n : Fin 1025, k1_off2 (BitVec.ofNat 32 n.val) 3 = n.val / 128 * 128 := by decide +kernel

theorem off_eq (w : BitVec 32) (h : w.toNat ≤ 1024) : k1_off2 w 3 = w.toNat / 128 * 128 := by
  have e := off_nat ⟨w.toNat, Nat.lt_succ_of_le h⟩
  have hw : BitVec.ofNat 32 w.toNat = w := by simp
  rw [hw] at e
  exact e

/-- Such a window lies within the padded input. -/
theorem chk (w : BitVec 32) (h : w.toNat ≤ 1024) : k1_chk1 w := by
  have e := off_eq w h
  have e' : k1_off2 w 3 + 256 ≤ 1280 := by omega
  refine ⟨fun a => ?_, fun a => ?_⟩
  · match a with
    | ⟨0, _⟩ => exact Nat.le_refl _
    | ⟨1, _⟩ => exact Nat.le_succ _
    | ⟨2, _⟩ => exact Nat.le_refl _
    | ⟨3, _⟩ => exact e'
  · match a with
    | ⟨0, _⟩ => exact Nat.le_refl _
    | ⟨1, _⟩ => exact Nat.le_refl _
    | ⟨2, _⟩ => exact Nat.le_refl _
    | ⟨3, _⟩ => exact e'

end Cert.KernelIdeal.Whole

end
-- ==== Proof.Value.Kernel.lean ====
module

public import proofs.«01_k».proof.Proof.Value.Starts
public import Idealize.ShloMosaic.Lib.Pipeline.ValueKit

/-!
# What the two calls leave, as whole arrays

The first call has one grid point, whose block is the whole array of prepared weights. The second call
writes one strip of the result per grid point, and the strips cover the array.
-/

@[expose] public section

set_option maxRecDepth 16384

noncomputable section

namespace Cert.KernelIdeal.Whole

open Idealize.ShloMosaic Idealize.ShloMosaic.TcCoe
open Idealize.ShloMosaic.Pipeline (Dat)
open Cert.KernelIdeal Cert.KernelIdeal.Gen
open Idealize.ShloMosaic.StableHlo

variable (m : (ℓ : Loc nD τ sig) → Buf (Elt Ideal) ℓ)

/-- Tables of zeros: no window's place depends on the tables, so facts about places are settled at these. -/
def zeros : (p : Fin 2) → (pcfgs (F := Ideal) p).Adm
  | ⟨0, _⟩ => ⟨fun | ⟨0, _⟩ => fun _ => 0#32, trivial⟩
  | ⟨1, _⟩ => ⟨fun | ⟨0, _⟩ => fun _ => 0#32, trivial⟩

/-- The first call's one point writes the whole array. -/
theorem whole_zeros : ((Pipeline.pin (pcfgs (F := Ideal)) zeros 0).win (2 : Fin 3)).WholeAt t0_0 := by decide +kernel
theorem whole_prep (a : (p : Fin 2) → (pcfgs (F := Ideal) p).Adm) : ((Pipeline.pin (pcfgs (F := Ideal)) a 0).win (2 : Fin 3)).WholeAt t0_0 := whole_zeros

/-- The second call's strips cover the array. -/
theorem covers_zeros : ((Pipeline.pin (pcfgs (F := Ideal)) zeros 1).win (3 : Fin 4)).Covers := by decide +kernel
theorem covers_band (a : (p : Fin 2) → (pcfgs (F := Ideal) p).Adm) : ((Pipeline.pin (pcfgs (F := Ideal)) a 1).win (3 : Fin 4)).Covers := covers_zeros

/-- A grid point's strip is the one of its own filter, whole on the other axes. -/
theorem place_zeros : ∀ t : Fin grid1.N, ((Pipeline.pin (pcfgs (F := Ideal)) zeros 1).win (3 : Fin 4)).index t = ![(Band.strip t).val, 0, 0, 0] := by
  decide +kernel
theorem place_band (a : (p : Fin 2) → (pcfgs (F := Ideal) p).Adm) (t : Fin grid1.N) :
    ((Pipeline.pin (pcfgs (F := Ideal)) a 1).win (3 : Fin 4)).index t = ![(Band.strip t).val, 0, 0, 0] := place_zeros t

/-- The first call fetches the weights whole. -/
theorem prep_blk_0 (a : (p : Fin 2) → (pcfgs (F := Ideal) p).Adm) (W : Dev nD → Valuation τ sig (Elt Ideal)) (c : Dev nD) :
    Prep.blk a W c 0 = W c (Proc.devRef .tc main_arg1) := by
  funext y
  refine congrArg (W c _) (funext fun b => Fin.ext ?_)
  blk_simp
  have hz : ∀ b, ((Pipeline.pin (pcfgs (F := Ideal)) a 0).win (0 : Fin 3)).index t0_0 b = 0 := by intro b; fin_cases b <;> rfl
  exact (congrArg (· * _ + _) (hz b)).trans (by rw [Nat.zero_mul, Nat.zero_add])
/-- The first call fetches the masks whole. -/
theorem prep_blk_1 (a : (p : Fin 2) → (pcfgs (F := Ideal) p).Adm) (W : Dev nD → Valuation τ sig (Elt Ideal)) (c : Dev nD) :
    Prep.blk a W c 1 = W c (Proc.devRef .tc main_v2) := by
  funext y
  refine congrArg (W c _) (funext fun b => Fin.ext ?_)
  blk_simp
  have hz : ∀ b, ((Pipeline.pin (pcfgs (F := Ideal)) a 0).win (1 : Fin 3)).index t0_0 b = 0 := by intro b; fin_cases b <;> rfl
  exact (congrArg (· * _ + _) (hz b)).trans (by rw [Nat.zero_mul, Nat.zero_add])

/-- The prepared weights, from the argument arrays. -/
abbrev prepared (c : Dev nD) : FVec Ideal S64x2x256x128 .bf16 :=
  Prep.slab (starts m) (m ((c.tc : Thread nD τ).loc main_arg1)) (V1 m c main_v2)

/-- The first call leaves the prepared weights. -/
theorem mid_eq (c : Dev nD) : mid m c main_v4 = prepared m c := by
  refine (Function.update_self (Proc.devRef .tc main_v4 : DevRef τ sig) _ (V1 m c)).trans ?_
  refine (Pipeline.afterRegion_arr (Prep.dat (tabs m) (V1 m) c) (V1 m c) winFacts0.arr_inj (2 : Fin 3)).trans ?_
  refine (Prep.dat (tabs m) (V1 m) c).arrAt_eq_of_after_last (2 : Fin 3) t0_0 (whole_prep _) _ fun j => ?_
  have e0 : Prep.blk (tabs m) (V1 m) c 0 = m ((c.tc : Thread nD τ).loc main_arg1) :=
    (prep_blk_0 _ _ c).trans ((V1_of m c main_arg1 (by decide)).trans rfl)
  have e1 : Prep.blk (tabs m) (V1 m) c 1 = V1 m c main_v2 := prep_blk_1 _ _ c
  show Prep.slab (starts m) (Prep.blk (tabs m) (V1 m) c 0) (Prep.blk (tabs m) (V1 m) c 1) j = _
  rw [e0, e1]
  rfl

/-- A strip's element, from the argument arrays. -/
abbrev stripAt (c : Dev nD) (s : Fin 64) : FVec Ideal S1x4x512x128 .f32 :=
  Band.bandOut (starts m (ValueIdx.ix1 s)) s (Band.pad (m ((c.tc : Thread nD τ).loc main_arg0))) (prepared m c) (V1 m c main_v3)

/-- The second call leaves its strips. -/
theorem outs_eq (c : Dev nD) :
    outs m 3 main_v5 c = fun i : S64x4x512x128.Idx => stripAt m c (i 0) (ValueIdx.ix4 0 (i 1) (i 2) (i 3)) := by
  refine (Pipeline.afterRegion_arr (Band.dat (tabs m) (mid m) c) (mid m c) winFacts1.arr_inj (3 : Fin 4)).trans ?_
  refine (Band.dat (tabs m) (mid m) c).arrAt_eq_of_covers (3 : Fin 4) _ (covers_band _) fun t _ y => ?_
  have ex : Band.xIn (mid m) c = m ((c.tc : Thread nD τ).loc main_arg0) :=
    (Function.update_of_ne (by decide) _ _).trans ((V1_of m c main_arg0 (by decide)).trans rfl)
  have eb : Band.bIn (mid m) c = V1 m c main_v3 := Function.update_of_ne (by decide) _ _
  have ew : Band.wIn (mid m) c = prepared m c := mid_eq m c
  have key : ∀ i : S64x4x512x128.Idx, i = ValueIdx.ix4 (Band.strip t) (y 1) (y 2) (y 3) →
      Band.bandOut (starts m (ValueIdx.ix1 (Band.strip t))) (Band.strip t) (Band.pad (Band.xIn (mid m) c)) (Band.wIn (mid m) c) (Band.bIn (mid m) c) y
        = stripAt m c (i 0) (ValueIdx.ix4 0 (i 1) (i 2) (i 3)) := by
    rintro i rfl
    rw [ex, eb, ew]
    refine congrArg (stripAt m c (Band.strip t)) (funext fun b => Fin.ext ?_)
    match b with
    | ⟨0, _⟩ => exact Nat.lt_one_iff.mp (y 0).isLt
    | ⟨1, _⟩ => rfl
    | ⟨2, _⟩ => rfl
    | ⟨3, _⟩ => rfl
  refine (key (((((Pipeline.pin (pcfgs (F := Ideal)) (tabs m) 1).win (3 : Fin 4)).blk t).view.emb y)) (funext fun b => Fin.ext ?_))
  blk_simp
  have hp := congrFun (place_band (tabs m) t) b
  refine (congrArg (· * _ + _) hp).trans ?_
  have h0 : (y 0).val < 1 := (y 0).isLt
  match b with
  | ⟨0, _⟩ =>
    show (Band.strip t).val * 1 + (y 0).val = (Band.strip t).val
    omega
  | ⟨1, _⟩ => exact (Nat.zero_mul _).symm ▸ Nat.zero_add _
  | ⟨2, _⟩ => exact (Nat.zero_mul _).symm ▸ Nat.zero_add _
  | ⟨3, _⟩ => exact (Nat.zero_mul _).symm ▸ Nat.zero_add _

/-- The program's result: the strips with the filter axis moved last. -/
theorem result_at (c : Dev nD) (b : Fin 4) (o : Fin 128) (t : Fin 512) (s : Fin 64) :
    V4 m (outs m) c main_v6 (ValueIdx.ix4 b o t s) = stripAt m c s (ValueIdx.ix4 0 b t o) := by
  have h : V4 m (outs m) c main_v6 = transpose S4x128x512x64 [1, 3, 2, 0] (outs m 3 main_v5 c) transposes_S64x4x512x128_S4x128x512x64_1_3_2_0 := by
    after_results <;> rfl
  rw [h, outs_eq]
  pointwise []

end Cert.KernelIdeal.Whole

end
-- ==== Proof.Value.Slab.lean ====
module

public import proofs.«01_k».proof.Proof.Ideal.PrepRun
public import Idealize.ShloMosaic.Lib.Pointwise

/-!
# The prepared weights, element by element

A band's 256 prepared rows hold its 125 masked weight rows, moved down by the start bin modulo 128, and
zeros elsewhere. The rotation never wraps a weight row round, as 127 + 125 is less than 256.
-/

@[expose] public section

set_option maxRecDepth 16384

noncomputable section

namespace Cert.KernelIdeal.Prep

open Idealize.ShloMosaic Idealize.ShloMosaic.TcCoe
open Cert.KernelIdeal Cert.KernelIdeal.Gen

/-- By how many rows the kernel rotates, as it computes it from a start bin. -/
def turn (w : BitVec 32) : BitVec 32 :=
  let n := Scalar.select (Scalar.cmpi .eq 128#32 0#32) 1#32 128#32
  let r := Scalar.remsi w n
  Scalar.select (Scalar.andi (Scalar.xori (Scalar.cmpi .slt r 0#32) (Scalar.cmpi .slt n 0#32)) (Scalar.cmpi .ne r 0#32)) (Scalar.addi r n) r

theorem turn_nat : ∀ n : Fin 1025, (turn (BitVec.ofNat 32 n.val)).toNat = n.val % 128 := by decide +kernel

theorem turn_eq (w : BitVec 32) (h : w.toNat ≤ 1024) : (turn w).toNat = w.toNat % 128 := by
  have e := turn_nat ⟨w.toNat, Nat.lt_succ_of_le h⟩
  have hw : BitVec.ofNat 32 w.toNat = w := by simp
  rw [hw] at e
  exact e

/-- A row of the prepared weights before the amount of the rotation is worked out. -/
theorem slab_turn (st : S64.Idx → Elt Ideal .i32) (w : FVec Ideal S64x2x125x128 .f32) (mk : FVec Ideal S64x1x125 .f32)
    (s : Fin 64) (ch : Fin 2) (k : Fin 256) (o : Fin 128) :
    slab (F := Ideal) st w mk (ValueIdx.ix4 s ch k o)
      = if h : (k.val + 256 - (turn (st (ValueIdx.ix1 s))).toNat % 256) % 256 < 125 then
          w (ValueIdx.ix4 s ch ⟨(k.val + 256 - (turn (st (ValueIdx.ix1 s))).toNat % 256) % 256, h⟩ o)
            * mk (ValueIdx.ix3 s 0 ⟨(k.val + 256 - (turn (st (ValueIdx.ix1 s))).toNat % 256) % 256, h⟩)
        else (0 : EReal) := by
  pointwise [slab, k0_pay4, k0_pay3, k0_pay1]
  rfl

/-- A row of the prepared weights. -/
theorem slab_at (st : S64.Idx → Elt Ideal .i32) (w : FVec Ideal S64x2x125x128 .f32) (mk : FVec Ideal S64x1x125 .f32)
    (s : Fin 64) (ch : Fin 2) (k : Fin 256) (o : Fin 128) (n : ℕ) (hn : (st (ValueIdx.ix1 s)).toNat = n) (h : n ≤ 1024) :
    slab (F := Ideal) st w mk (ValueIdx.ix4 s ch k o)
      = if h : n % 128 ≤ k.val ∧ k.val - n % 128 < 125 then
          w (ValueIdx.ix4 s ch ⟨k.val - n % 128, h.2⟩ o) * mk (ValueIdx.ix3 s 0 ⟨k.val - n % 128, h.2⟩)
        else (0 : EReal) := by
  have hk := k.isLt
  rw [slab_turn]
  have ht := turn_eq (st (ValueIdx.ix1 s)) (hn ▸ h)
  rw [hn] at ht
  generalize (turn (st (ValueIdx.ix1 s))).toNat = q at ht ⊢
  subst ht
  by_cases c : n % 128 ≤ k.val
  · have e : (k.val + 256 - n % 128 % 256) % 256 = k.val - n % 128 := by omega
    simp only [e, c, true_and]
  · rw [dif_neg (by omega), dif_neg (fun h => c h.1)]

end Cert.KernelIdeal.Prep

end
-- ==== Proof.Value.Band.lean ====
module

public import proofs.«01_k».proof.Proof.Ideal.BandVal
public import Idealize.ShloMosaic.Lib.Pointwise

/-!
# A band's output block and the padded input, element by element
-/

@[expose] public section

set_option maxRecDepth 16384

noncomputable section

namespace Cert.KernelIdeal.Band

open Idealize.ShloMosaic Idealize.ShloMosaic.TcCoe
open Cert.KernelIdeal Cert.KernelIdeal.Gen

/-- An output element: both channels' sums over the window's 256 columns, and the bias. -/
theorem out_at (word : Elt Ideal .i32) (s : Fin 64) (xb : FVec Ideal S4x2x512x1280 .bf16) (W : FVec Ideal S64x2x256x128 .bf16)
    (B : FVec Ideal S64x1x128 .f32) (b : Fin 4) (t : Fin 512) (o : Fin 128) :
    bandOut (F := Ideal) word s xb W B (ValueIdx.ix4 0 b t o)
      = ((∑ k : Fin 256, xb (ValueIdx.ix4 b 0 t ⟨(k1_off2 word 3 + k.val) % 1280, Nat.mod_lt _ (by decide)⟩) * W (ValueIdx.ix4 s 0 k o))
        + (∑ k : Fin 256, xb (ValueIdx.ix4 b 1 t ⟨(k1_off2 word 3 + k.val) % 1280, Nat.mod_lt _ (by decide)⟩) * W (ValueIdx.ix4 s 1 k o))
        + B (ValueIdx.ix3 s 0 o) : EReal) := by
  pointwise [bandOut, k1_pay1, k1_pay20, k1_pay21, wts]
  rfl

/-- The padded input. -/
theorem pad_at (x : FVec Ideal S4x2x512x1025 .f32) (b : Fin 4) (ch : Fin 2) (t : Fin 512) (j : Fin 1280) :
    pad (F := Ideal) x (ValueIdx.ix4 b ch t j) = if h : j.val < 1025 then x (ValueIdx.ix4 b ch t ⟨j.val, h⟩) else (0 : EReal) := by
  pointwise [pad, k1_pay2, k1_pay3]

end Cert.KernelIdeal.Band

end
-- ==== Proof.Value.Algebra.lean ====
module

public import proofs.«01_k».proof.Proof.Value.Kernel
public import proofs.«01_k».proof.Proof.Value.Slab
public import proofs.«01_k».proof.Proof.Value.Band

/-!
# A band's window sum is its gathered sum

The kernel sums over the 256 columns of a window, whose weight rows are zero but for the band's 125, each
multiplied by its mask. The reference sums over the band's 125 places, each reading the column that its index
names. Where the mask is not zero the index is the start plus the place, so that both read one column; where
it is zero both terms are zero. Nothing but the order of multiplication and products by zero are used, so the
sums agree for infinite values as well.
-/

@[expose] public section

set_option maxRecDepth 16384

noncomputable section

namespace Cert.KernelIdeal.Whole

open Idealize.ShloMosaic Idealize.ShloMosaic.TcCoe
open Cert.KernelIdeal Cert.KernelIdeal.Gen

/-- One channel's sum over a window is its sum over the band's places. -/
theorem channel (n : ℕ) (hn : n ≤ 1024) (X : Fin 1025 → EReal) (wt mk : Fin 125 → EReal) (col : Fin 125 → Fin 1025)
    (hc : ∀ k, mk k = 0 ∨ (col k).val = n + k.val) :
    (∑ k : Fin 256, (if h : (n / 128 * 128 + k.val) % 1280 < 1025 then X ⟨(n / 128 * 128 + k.val) % 1280, h⟩ else 0)
        * (if h : n % 128 ≤ k.val ∧ k.val - n % 128 < 125 then wt ⟨k.val - n % 128, h.2⟩ * mk ⟨k.val - n % 128, h.2⟩ else 0))
      = ∑ k : Fin 125, wt k * (X (col k) * mk k) := by
  have hr : n % 128 < 128 := Nat.mod_lt _ (by decide)
  have hd : n / 128 * 128 + n % 128 = n := by omega
  refine (Finset.sum_of_injOn (fun k : Fin 125 => (⟨n % 128 + k.val, by omega⟩ : Fin 256)) ?_ (fun _ _ => Finset.mem_coe.2 (Finset.mem_univ _)) ?_ ?_).symm
  · intro i _ j _ h
    have := congrArg Fin.val h
    exact Fin.ext (by simpa using this)
  · intro k _ hk
    refine (congrArg (_ * ·) (dif_neg ?_)).trans (mul_zero _)
    rintro ⟨h1, h2⟩
    exact hk ⟨⟨k.val - n % 128, h2⟩, Finset.mem_coe.2 (Finset.mem_univ _), Fin.ext (by show n % 128 + (k.val - n % 128) = k.val; omega)⟩
  · intro k _
    have hk : n % 128 ≤ n % 128 + k.val ∧ n % 128 + k.val - n % 128 < 125 := by omega
    have e : (⟨n % 128 + k.val - n % 128, hk.2⟩ : Fin 125) = k := Fin.ext (by show n % 128 + k.val - n % 128 = k.val; omega)
    show _ = _ * (if h : n % 128 ≤ n % 128 + k.val ∧ n % 128 + k.val - n % 128 < 125 then
      wt ⟨n % 128 + k.val - n % 128, h.2⟩ * mk ⟨n % 128 + k.val - n % 128, h.2⟩ else 0)
    rw [dif_pos hk, e]
    rcases hc k with h0 | h1
    · simp only [h0, mul_zero]
    · have hm : (n / 128 * 128 + (n % 128 + k.val)) % 1280 = (col k).val := by have := (col k).isLt; omega
      rw [dif_pos (show (n / 128 * 128 + (n % 128 + k.val)) % 1280 < 1025 by have := (col k).isLt; omega)]
      rw [show (⟨(n / 128 * 128 + (n % 128 + k.val)) % 1280, _⟩ : Fin 1025) = col k from Fin.ext hm]
      rw [mul_left_comm]

variable (m : (ℓ : Loc nD τ sig) → Buf (Elt Ideal) ℓ)

/-- The five arguments: the input, the weights, the bias, the bin indices and the masks. -/
abbrev argX (c : Dev nD) : FVec Ideal S4x2x512x1025 .f32 := m ((c.tc : Thread nD τ).loc main_arg0)
/-- The weights. -/
abbrev argW (c : Dev nD) : FVec Ideal S64x2x125x128 .f32 := m ((c.tc : Thread nD τ).loc main_arg1)
/-- The bias. -/
abbrev argB (c : Dev nD) : FVec Ideal S64x128 .f32 := m ((c.tc : Thread nD τ).loc main_arg2)
/-- The bin indices. -/
abbrev argI (c : Dev nD) : IVec S64x125 32 := m ((c.tc : Thread nD τ).loc main_arg3)
/-- The masks. -/
abbrev argK (c : Dev nD) : FVec Ideal S64x125 .f32 := m ((c.tc : Thread nD τ).loc main_arg4)

/-- One channel of a strip's element, as the sum over the band's places. -/
theorem channel_at (c : Dev nD) (hb : ∀ y, (argI m c y).toNat ≤ 1024) (s : Fin 64)
    (hc : ∀ k : Fin 125, argK m c (ValueIdx.ix2 s k) = (0 : EReal) ∨ (argI m c (ValueIdx.ix2 s k)).toNat = (argI m c (ValueIdx.ix2 s 0)).toNat + k.val)
    (b : Fin 4) (ch : Fin 2) (t : Fin 512) (o : Fin 128) :
    (∑ k : Fin 256, Band.pad (F := Ideal) (argX m c)
        (ValueIdx.ix4 b ch t ⟨(k1_off2 (starts m (ValueIdx.ix1 s)) 3 + k.val) % 1280, Nat.mod_lt _ (by decide)⟩) * prepared m c (ValueIdx.ix4 s ch k o) : EReal)
      = ∑ k : Fin 125, argW m c (ValueIdx.ix4 s ch k o)
        * (argX m c (ValueIdx.ix4 b ch t ⟨(argI m c (ValueIdx.ix2 s k)).toNat, Nat.lt_succ_of_le (hb _)⟩) * argK m c (ValueIdx.ix2 s k)) := by
  have hs : starts m (ValueIdx.ix1 s) = argI m c (ValueIdx.ix2 s 0) := by rw [starts_eq, one_dev c]
  have ho : k1_off2 (starts m (ValueIdx.ix1 s)) 3 = (argI m c (ValueIdx.ix2 s 0)).toNat / 128 * 128 := by rw [hs]; exact off_eq _ (hb _)
  refine Eq.trans (Finset.sum_congr rfl fun k _ => ?_)
    (channel (argI m c (ValueIdx.ix2 s 0)).toNat (hb _) (fun j => argX m c (ValueIdx.ix4 b ch t j))
      (fun k => argW m c (ValueIdx.ix4 s ch k o)) (fun k => argK m c (ValueIdx.ix2 s k))
      (fun k => ⟨(argI m c (ValueIdx.ix2 s k)).toNat, Nat.lt_succ_of_le (hb _)⟩) hc)
  have hp := Prep.slab_at (starts m) (argW m c) (V1 m c main_v2) s ch k o (argI m c (ValueIdx.ix2 s 0)).toNat (by rw [hs]) (hb _)
  have hp := hp.trans (dite_congr rfl (fun h => congrArg (argW m c (ValueIdx.ix4 s ch _ o) * ·) (masks_eq m c s _)) fun _ => rfl)
  rw [Band.pad_at]
  refine Eq.trans (congrArg (_ * ·) hp) ?_
  simp only [ho]

/-- The program's result at an index: the reference's sum. -/
theorem value_at (c : Dev nD) (hb : ∀ y, (argI m c y).toNat ≤ 1024)
    (hc : ∀ (s : Fin 64) (k : Fin 125), argK m c (ValueIdx.ix2 s k) = (0 : EReal) ∨ (argI m c (ValueIdx.ix2 s k)).toNat = (argI m c (ValueIdx.ix2 s 0)).toNat + k.val)
    (b : Fin 4) (o : Fin 128) (t : Fin 512) (s : Fin 64) :
    V4 m (outs m) c main_v6 (ValueIdx.ix4 b o t s)
      = ((∑ ch : Fin 2, ∑ k : Fin 125, argW m c (ValueIdx.ix4 s ch k o)
        * (argX m c (ValueIdx.ix4 b ch t ⟨(argI m c (ValueIdx.ix2 s k)).toNat, Nat.lt_succ_of_le (hb _)⟩) * argK m c (ValueIdx.ix2 s k)))
          + argB m c (ValueIdx.ix2 s o) : EReal) := by
  rw [result_at, Fin.sum_univ_two, ← channel_at m c hb s (hc s) b 0 t o, ← channel_at m c hb s (hc s) b 1 t o]
  exact (Band.out_at _ s _ _ _ b t o).trans (congrArg (_ + ·) (bias_eq m c s o))

end Cert.KernelIdeal.Whole

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_idxes_name_bins
public import proofs.«01_k».proof.Proof.Gen.Pre_bands_are_runs
public import proofs.«01_k».proof.Proof.Gen.ReferenceIdeal.Run
public import proofs.«01_k».proof.Proof.Bits.Frame
public import proofs.«01_k».proof.Proof.Value.Pre
public import proofs.«01_k».proof.Proof.Value.Ref
public import proofs.«01_k».proof.Proof.Value.Algebra
public import Idealize.ShloMosaic.Adequacy
public import Idealize.ShloMosaic.Init

/-!
# The claim

The frames of both readings of the kernel come from one run, which asks only that each band's start bin
passes the kernel's own check. The reference has no semaphores and no preconditions. The value claim puts
the kernel's result and the reference's side by side, element by element.
-/

@[expose] public section

noncomputable section

namespace Cert.Proof

open Idealize.ShloMosaic Idealize.SL.Sem Idealize.ShloMosaic.TcCoe

/-- Every start bin passes the kernel's check if the bin indices lie in their range. -/
theorem starts_chk {F : FTy → Type} [FloatOps F] (m : (ℓ : Loc Cert.KernelIdeal.nD Cert.KernelIdeal.τ Cert.KernelIdeal.sig) → Buf (Elt F) ℓ)
    (h : ∀ y : Cert.KernelIdeal.S64x125.Idx, BitVec.toNat (w := 32) (m (((0 : Dev Cert.KernelIdeal.nD).tc : Thread Cert.KernelIdeal.nD Cert.KernelIdeal.τ).loc Cert.KernelIdeal.main_arg3) y) ≤ 1024)
    (s : Fin 64) : Cert.KernelIdeal.k1_chk1 (Cert.KernelIdeal.Whole.starts m (ValueIdx.ix1 s)) := by
  rw [Cert.KernelIdeal.Whole.starts_eq]
  exact Cert.KernelIdeal.Whole.chk _ (h _)

theorem frame_kernel : Cert.quiescent_Kernel := fun m g h =>
  Cert.Bits.run m g (starts_chk (F := Bits) m fun y => Cert.Pre.bins (F := Bits) _ _ _ _ _ (h 0) y)

theorem frame_ideal : Cert.quiescent_KernelIdeal := fun m g h =>
  (θ_run _ _ _).mono (fun _ hr => ⟨fun c => (hr.1 c).2, hr.2⟩)
    (Cert.KernelIdeal.Whole.run m g (starts_chk m fun y => Cert.Pre.bins (F := Ideal) _ _ _ _ _ (h 0) y))

theorem frame_ideal_runs : Cert.quiescent_KernelIdeal_pre_bands_are_runs := fun m g h =>
  (θ_run _ _ _).mono (fun _ hr => ⟨fun c => (hr.1 c).2, hr.2⟩)
    (Cert.KernelIdeal.Whole.run m g (starts_chk m fun y => Cert.Pre.runs_bins (F := Ideal) _ _ _ _ _ (h 0) y))

theorem frame_reference : Cert.quiescent_ReferenceIdeal := fun m g _ =>
  (θ_run _ _ _).mono (fun r hr => ⟨fun c => (hr c).2, Idealize.ShloMosaic.sem_eq_zero_of_no_sems (by decide) r.2⟩)
    (Cert.ReferenceIdeal.Value.run m g)

theorem frame_reference_runs : Cert.quiescent_ReferenceIdeal_pre_bands_are_runs := fun m g _ =>
  (θ_run _ _ _).mono (fun r hr => ⟨fun c => (hr c).2, Idealize.ShloMosaic.sem_eq_zero_of_no_sems (by decide) r.2⟩)
    (Cert.ReferenceIdeal.Value.run m g)

/-- The reference's result is the kernel's, where the second precondition holds. -/
theorem values_agree (m : (ℓ : Loc Cert.KernelIdeal.nD Cert.KernelIdeal.τ Cert.KernelIdeal.sig) → Buf (Elt Ideal) ℓ)
    (h : Cert.Pre_KernelIdeal_bands_are_runs m) (c : Dev Cert.KernelIdeal.nD) :
    Cert.ReferenceIdeal.Value.result (Cert.KernelIdeal.Whole.argX m c) (Cert.KernelIdeal.Whole.argW m c) (Cert.KernelIdeal.Whole.argB m c)
        (Cert.KernelIdeal.Whole.argI m c) (Cert.KernelIdeal.Whole.argK m c)
      = Cert.KernelIdeal.Gen.V4 m (Cert.KernelIdeal.Whole.outs m) c Cert.KernelIdeal.main_v6 := by
  have hb : ∀ y, (Cert.KernelIdeal.Whole.argI m c y).toNat ≤ 1024 := fun y => Cert.Pre.runs_bins (F := Ideal) _ _ _ _ _ (h c) y
  funext i
  obtain ⟨b, o, t, s, rfl⟩ : ∃ (b : Fin 4) (o : Fin 128) (t : Fin 512) (s : Fin 64), i = ValueIdx.ix4 b o t s := by
    refine ⟨i 0, i 1, i 2, i 3, funext fun a => ?_⟩
    match a with
    | ⟨0, _⟩ => rfl
    | ⟨1, _⟩ => rfl
    | ⟨2, _⟩ => rfl
    | ⟨3, _⟩ => rfl
  exact (Cert.ReferenceIdeal.Value.result_at _ _ _ _ _ hb b o t s).trans
    (Cert.KernelIdeal.Whole.value_at m c hb (fun s k => (Cert.Pre.runs _ _ _ _ _ (h c) s k).2) b o t s).symm

theorem value : Cert.algebraic_KernelIdeal_ReferenceIdeal_pre_bands_are_runs := fun m g m' g' h ha =>
  ⟨fun c => Cert.KernelIdeal.Gen.V4 m (Cert.KernelIdeal.Whole.outs m) c Cert.KernelIdeal.main_v6,
    (θ_run _ _ _).mono (fun _ hr => hr.1)
      (Cert.KernelIdeal.Whole.run m g (starts_chk m fun y => Cert.Pre.runs_bins (F := Ideal) _ _ _ _ _ (h 0) y)),
    (θ_run _ _ _).mono (fun _ hr c => ⟨by
      obtain ⟨e0, e1, e2, e3, e4⟩ := ha c
      refine (hr c).1.trans ?_
      rw [e0, e1, e2, e3, e4]
      exact values_agree m h c, (hr c).2⟩)
      (Cert.ReferenceIdeal.Value.run m' g')⟩

theorem claim : Cert.Claim := ⟨Cert.Kernel.Gen.facts, Cert.KernelIdeal.Gen.facts, Cert.ReferenceIdeal.Gen.facts,
  Cert.Pre_idxes_name_bins.Gen.facts, Cert.Pre_bands_are_runs.Gen.facts,
  frame_kernel, frame_ideal, frame_ideal_runs, frame_reference, frame_reference_runs, trivial, value⟩

end Cert.Proof

end
